-- ==== Defs.lean ====
def Pre_Kernel [hPre_it_in_range : Cert.Pre_it_in_range.Facts] (m : (ℓ : Loc Cert.Kernel.nD Cert.Kernel.τ Cert.Kernel.sig) → Buf (Elt Bits) ℓ) : Prop :=
  ∀ c : Dev Cert.Kernel.nD,
    (Cert.Pre_it_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_it_in_range : Cert.Pre_it_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_it_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_it_in_range [hPre_it_in_range : Cert.Pre_it_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_it_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_it_in_range : Cert.Pre_it_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_it_in_range : Cert.Pre_it_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_it_in_range [hReferenceIdeal : Cert.ReferenceIdeal.Facts] [hPre_it_in_range : Cert.Pre_it_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_it_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_it_in_range : Cert.Pre_it_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_it_in_range : Cert.Pre_it_in_range.Facts),
    quiescent_Kernel (hKernel := hKernel) (hPre_it_in_range := hPre_it_in_range)
    ∧ quiescent_KernelIdeal (hKernelIdeal := hKernelIdeal) (hPre_it_in_range := hPre_it_in_range)
    ∧ quiescent_ReferenceIdeal (hReferenceIdeal := hReferenceIdeal)
    ∧ quiescent_ReferenceIdeal_pre_it_in_range (hReferenceIdeal := hReferenceIdeal) (hPre_it_in_range := hPre_it_in_range)
    ∧ preserves_Kernel_KernelIdeal
    ∧ algebraic_KernelIdeal_ReferenceIdeal (hKernelIdeal := hKernelIdeal) (hReferenceIdeal := hReferenceIdeal) (hPre_it_in_range := hPre_it_in_range)
-- ==== Pre_it_in_range.lean ====
abbrev S50x256x3x32x32 : Shape := ⟨5, ![50, 256, 3, 32, 32]⟩
abbrev S50x256x10 : Shape := ⟨3, ![50, 256, 10]⟩
abbrev S_ : Shape := ⟨0, ![]⟩

class Facts : Prop where

variable [Facts]

def fn {F : FTy → Type} [FloatOps F] (main_arg0 : FVec F S50x256x3x32x32 .f32) (main_arg1 : FVec F S50x256x10 .f32) (main_arg2 : IVec S_ 32) : IVec S_ 1 :=
  let main_c : IVec S_ 32 := constantI S_ 32 0#32
  let main_v0 : IVec S_ 1 := cmpi .sge main_arg2 main_c
  let main_c_0 : IVec S_ 32 := constantI S_ 32 50#32
  let main_v1 : IVec S_ 1 := cmpi .slt main_arg2 main_c_0
  let main_v2 : IVec S_ 1 := andi main_v0 main_v1
  main_v2
-- ==== Kernel.lean ====
abbrev S50x256x3x32x32 : Shape := ⟨5, ![50, 256, 3, 32, 32]⟩
abbrev S50x256x10 : Shape := ⟨3, ![50, 256, 10]⟩
abbrev S_ : Shape := ⟨0, ![]⟩
abbrev S50x3x32x32x256 : Shape := ⟨5, ![50, 3, 32, 32, 256]⟩
abbrev S50x3072x256 : Shape := ⟨3, ![50, 3072, 256]⟩
abbrev S10x50x256 : Shape := ⟨3, ![10, 50, 256]⟩
abbrev S10x50x1x256 : Shape := ⟨4, ![10, 50, 1, 256]⟩
abbrev S1 : Shape := ⟨1, ![1]⟩
abbrev S3072x256 : Shape := ⟨2, ![3072, 256]⟩
abbrev S10x1x256 : Shape := ⟨3, ![10, 1, 256]⟩
abbrev S8x384x256 : Shape := ⟨3, ![8, 384, 256]⟩
abbrev S8 : Shape := ⟨1, ![8]⟩
abbrev S1x1x256 : Shape := ⟨3, ![1, 1, 256]⟩
abbrev S1x256 : Shape := ⟨2, ![1, 256]⟩
abbrev S1x1x1x256 : Shape := ⟨4, ![1, 1, 1, 256]⟩
abbrev S1x384x256 : Shape := ⟨3, ![1, 384, 256]⟩
abbrev S384x256 : Shape := ⟨2, ![384, 256]⟩
abbrev S3x32x32x256 : Shape := ⟨4, ![3, 32, 32, 256]⟩
abbrev S256x3x32x32 : Shape := ⟨4, ![256, 3, 32, 32]⟩
abbrev S10x256 : Shape := ⟨2, ![10, 256]⟩
abbrev S256x10 : Shape := ⟨2, ![256, 10]⟩

abbrev nBuf : Space → Nat
  | .hbm => 14
  | .vmem => 2
  | .smem => 1
  | _ => 0

abbrev bufTy : (tb : Table) → Fin (tcTables nBuf tb) → BufTy
  | .hbm, ⟨0, _⟩ => ⟨S50x256x3x32x32, .f32⟩
  | .hbm, ⟨1, _⟩ => ⟨S50x256x10, .f32⟩
  | .hbm, ⟨2, _⟩ => ⟨S_, .i32⟩
  | .hbm, ⟨3, _⟩ => ⟨S50x3x32x32x256, .f32⟩
  | .hbm, ⟨4, _⟩ => ⟨S50x3072x256, .f32⟩
  | .hbm, ⟨5, _⟩ => ⟨S10x50x256, .f32⟩
  | .hbm, ⟨6, _⟩ => ⟨S10x50x1x256, .f32⟩
  | .hbm, ⟨7, _⟩ => ⟨S1, .i32⟩
  | .hbm, ⟨8, _⟩ => ⟨S3072x256, .f32⟩
  | .hbm, ⟨9, _⟩ => ⟨S10x1x256, .f32⟩
  | .hbm, ⟨10, _⟩ => ⟨S3x32x32x256, .f32⟩
  | .hbm, ⟨11, _⟩ => ⟨S256x3x32x32, .f32⟩
  | .hbm, ⟨12, _⟩ => ⟨S10x256, .f32⟩
  | .hbm, ⟨13, _⟩ => ⟨S256x10, .f32⟩
  | .local _ .vmem, ⟨0, _⟩ => ⟨S8x384x256, .f32⟩
  | .local _ .vmem, ⟨1, _⟩ => ⟨S8x384x256, .f32⟩
  | .local _ .smem, ⟨0, _⟩ => ⟨S1, .i32⟩
  | _, _ => ⟨S50x256x3x32x32, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

def k0_off1 (v0 : BitVec 32) : Fin 4 → Nat :=
  let c0_i32 : BitVec 32 := 0#32
  let c0_i32_3 : BitVec 32 := 0#32
  let c0_i32_4 : BitVec 32 := 0#32
  ![0, v0.toNat, 0, 0]

def k0_off2 (v0 : BitVec 32) : Fin 4 → Nat :=
  let c1_i32 : BitVec 32 := 1#32
  let c0_i32_8 : BitVec 32 := 0#32
  let c0_i32_9 : BitVec 32 := 0#32
  ![1, v0.toNat, 0, 0]
def k0_off3 (v0 : BitVec 32) : Fin 4 → Nat :=
  let c2_i32 : BitVec 32 := 2#32
  let c0_i32_13 : BitVec 32 := 0#32
  let c0_i32_14 : BitVec 32 := 0#32
  ![2, v0.toNat, 0, 0]
def k0_off4 (v0 : BitVec 32) : Fin 4 → Nat :=
  let c3_i32 : BitVec 32 := 3#32
  let c0_i32_18 : BitVec 32 := 0#32
  let c0_i32_19 : BitVec 32 := 0#32
  ![3, v0.toNat, 0, 0]
def k0_off5 (v0 : BitVec 32) : Fin 4 → Nat :=
  let c4_i32 : BitVec 32 := 4#32
  let c0_i32_23 : BitVec 32 := 0#32
  let c0_i32_24 : BitVec 32 := 0#32
  ![4, v0.toNat, 0, 0]
def k0_off6 (v0 : BitVec 32) : Fin 4 → Nat :=
  let c5_i32 : BitVec 32 := 5#32
  let c0_i32_28 : BitVec 32 := 0#32
  let c0_i32_29 : BitVec 32 := 0#32
  ![5, v0.toNat, 0, 0]
def k0_off7 (v0 : BitVec 32) : Fin 4 → Nat :=
  let c6_i32 : BitVec 32 := 6#32
  let c0_i32_33 : BitVec 32 := 0#32
  let c0_i32_34 : BitVec 32 := 0#32
  ![6, v0.toNat, 0, 0]
def k0_off8 (v0 : BitVec 32) : Fin 4 → Nat :=
  let c7_i32 : BitVec 32 := 7#32
  let c0_i32_38 : BitVec 32 := 0#32
  let c0_i32_39 : BitVec 32 := 0#32
  ![7, v0.toNat, 0, 0]
def k0_off9 (v0 : BitVec 32) : Fin 4 → Nat :=
  let c8_i32 : BitVec 32 := 8#32
  let c0_i32_43 : BitVec 32 := 0#32
  let c0_i32_44 : BitVec 32 := 0#32
  ![8, v0.toNat, 0, 0]
def k0_off10 (v0 : BitVec 32) : Fin 4 → Nat :=
  let c9_i32 : BitVec 32 := 9#32
  let c0_i32_48 : BitVec 32 := 0#32
  let c0_i32_49 : BitVec 32 := 0#32
  ![9, v0.toNat, 0, 0]
def k0_off11 (v0 : BitVec 32) : Fin 3 → Nat :=
  let c0_i32_54 : BitVec 32 := 0#32
  let c0_i32_55 : BitVec 32 := 0#32
  ![v0.toNat, 0, 0]
def k0_off12 (v0 : BitVec 32) : Fin 3 → Nat :=
  let c384_i32 : BitVec 32 := 384#32
  let c0_i32_60 : BitVec 32 := 0#32
  ![v0.toNat, 384, 0]
def k0_off13 (v0 : BitVec 32) : Fin 3 → Nat :=
  let c768_i32 : BitVec 32 := 768#32
  let c0_i32_65 : BitVec 32 := 0#32
  ![v0.toNat, 768, 0]
def k0_off14 (v0 : BitVec 32) : Fin 3 → Nat :=
  let c1152_i32 : BitVec 32 := 1152#32
  let c0_i32_70 : BitVec 32 := 0#32
  ![v0.toNat, 1152, 0]
def k0_off15 (v0 : BitVec 32) : Fin 3 → Nat :=
  let c1536_i32 : BitVec 32 := 1536#32
  let c0_i32_75 : BitVec 32 := 0#32
  ![v0.toNat, 1536, 0]
def k0_off16 (v0 : BitVec 32) : Fin 3 → Nat :=
  let c1920_i32 : BitVec 32 := 1920#32
  let c0_i32_80 : BitVec 32 := 0#32
  ![v0.toNat, 1920, 0]
def k0_off17 (v0 : BitVec 32) : Fin 3 → Nat :=
  let c2304_i32 : BitVec 32 := 2304#32
  let c0_i32_85 : BitVec 32 := 0#32
  ![v0.toNat, 2304, 0]
def k0_off18 (v0 : BitVec 32) : Fin 3 → Nat :=
  let c2688_i32 : BitVec 32 := 2688#32
  let c0_i32_90 : BitVec 32 := 0#32
  ![v0.toNat, 2688, 0]

def k0_chk1 (v0 : BitVec 32) : Prop :=
  (∀ a, (k0_off1 v0) a + S1x1x1x256.size a ≤ S10x50x1x256.size a) ∧
  (∀ a, (k0_off2 v0) a + S1x1x1x256.size a ≤ S10x50x1x256.size a) ∧
  (∀ a, (k0_off3 v0) a + S1x1x1x256.size a ≤ S10x50x1x256.size a) ∧
  (∀ a, (k0_off4 v0) a + S1x1x1x256.size a ≤ S10x50x1x256.size a) ∧
  (∀ a, (k0_off5 v0) a + S1x1x1x256.size a ≤ S10x50x1x256.size a) ∧
  (∀ a, (k0_off6 v0) a + S1x1x1x256.size a ≤ S10x50x1x256.size a) ∧
  (∀ a, (k0_off7 v0) a + S1x1x1x256.size a ≤ S10x50x1x256.size a) ∧
  (∀ a, (k0_off8 v0) a + S1x1x1x256.size a ≤ S10x50x1x256.size a) ∧
  (∀ a, (k0_off9 v0) a + S1x1x1x256.size a ≤ S10x50x1x256.size a) ∧
  (∀ a, (k0_off10 v0) a + S1x1x1x256.size a ≤ S10x50x1x256.size a) ∧
  (∀ a, (k0_off11 v0) a + S1x384x256.size a ≤ S50x3072x256.size a) ∧
  (∀ a, (k0_off12 v0) a + S1x384x256.size a ≤ S50x3072x256.size a) ∧
  (∀ a, (k0_off13 v0) a + S1x384x256.size a ≤ S50x3072x256.size a) ∧
  (∀ a, (k0_off14 v0) a + S1x384x256.size a ≤ S50x3072x256.size a) ∧
  (∀ a, (k0_off15 v0) a + S1x384x256.size a ≤ S50x3072x256.size a) ∧
  (∀ a, (k0_off16 v0) a + S1x384x256.size a ≤ S50x3072x256.size a) ∧
  (∀ a, (k0_off17 v0) a + S1x384x256.size a ≤ S50x3072x256.size a) ∧
  (∀ a, (k0_off18 v0) a + S1x384x256.size a ≤ S50x3072x256.size a)
theorem k0_off1_inb : ∀ (v0 : BitVec 32) (k0_hw1 : k0_chk1 v0), ∀ a, (k0_off1 v0) a + S1x1x1x256.size a ≤ S10x50x1x256.size a := fun v0 k0_hw1 => k0_hw1.1
theorem k0_off2_inb : ∀ (v0 : BitVec 32) (k0_hw1 : k0_chk1 v0), ∀ a, (k0_off2 v0) a + S1x1x1x256.size a ≤ S10x50x1x256.size a := fun v0 k0_hw1 => k0_hw1.2.1
theorem k0_off3_inb : ∀ (v0 : BitVec 32) (k0_hw1 : k0_chk1 v0), ∀ a, (k0_off3 v0) a + S1x1x1x256.size a ≤ S10x50x1x256.size a := fun v0 k0_hw1 => k0_hw1.2.2.1
theorem k0_off4_inb : ∀ (v0 : BitVec 32) (k0_hw1 : k0_chk1 v0), ∀ a, (k0_off4 v0) a + S1x1x1x256.size a ≤ S10x50x1x256.size a := fun v0 k0_hw1 => k0_hw1.2.2.2.1
theorem k0_off5_inb : ∀ (v0 : BitVec 32) (k0_hw1 : k0_chk1 v0), ∀ a, (k0_off5 v0) a + S1x1x1x256.size a ≤ S10x50x1x256.size a := fun v0 k0_hw1 => k0_hw1.2.2.2.2.1
theorem k0_off6_inb : ∀ (v0 : BitVec 32) (k0_hw1 : k0_chk1 v0), ∀ a, (k0_off6 v0) a + S1x1x1x256.size a ≤ S10x50x1x256.size a := fun v0 k0_hw1 => k0_hw1.2.2.2.2.2.1
theorem k0_off7_inb : ∀ (v0 : BitVec 32) (k0_hw1 : k0_chk1 v0), ∀ a, (k0_off7 v0) a + S1x1x1x256.size a ≤ S10x50x1x256.size a := fun v0 k0_hw1 => k0_hw1.2.2.2.2.2.2.1
theorem k0_off8_inb : ∀ (v0 : BitVec 32) (k0_hw1 : k0_chk1 v0), ∀ a, (k0_off8 v0) a + S1x1x1x256.size a ≤ S10x50x1x256.size a := fun v0 k0_hw1 => k0_hw1.2.2.2.2.2.2.2.1
theorem k0_off9_inb : ∀ (v0 : BitVec 32) (k0_hw1 : k0_chk1 v0), ∀ a, (k0_off9 v0) a + S1x1x1x256.size a ≤ S10x50x1x256.size a := fun v0 k0_hw1 => k0_hw1.2.2.2.2.2.2.2.2.1
theorem k0_off10_inb : ∀ (v0 : BitVec 32) (k0_hw1 : k0_chk1 v0), ∀ a, (k0_off10 v0) a + S1x1x1x256.size a ≤ S10x50x1x256.size a := fun v0 k0_hw1 => k0_hw1.2.2.2.2.2.2.2.2.2.1
theorem k0_off11_inb : ∀ (v0 : BitVec 32) (k0_hw1 : k0_chk1 v0), ∀ a, (k0_off11 v0) a + S1x384x256.size a ≤ S50x3072x256.size a := fun v0 k0_hw1 => k0_hw1.2.2.2.2.2.2.2.2.2.2.1
theorem k0_off12_inb : ∀ (v0 : BitVec 32) (k0_hw1 : k0_chk1 v0), ∀ a, (k0_off12 v0) a + S1x384x256.size a ≤ S50x3072x256.size a := fun v0 k0_hw1 => k0_hw1.2.2.2.2.2.2.2.2.2.2.2.1
theorem k0_off13_inb : ∀ (v0 : BitVec 32) (k0_hw1 : k0_chk1 v0), ∀ a, (k0_off13 v0) a + S1x384x256.size a ≤ S50x3072x256.size a := fun v0 k0_hw1 => k0_hw1.2.2.2.2.2.2.2.2.2.2.2.2.1
theorem k0_off14_inb : ∀ (v0 : BitVec 32) (k0_hw1 : k0_chk1 v0), ∀ a, (k0_off14 v0) a + S1x384x256.size a ≤ S50x3072x256.size a := fun v0 k0_hw1 => k0_hw1.2.2.2.2.2.2.2.2.2.2.2.2.2.1
theorem k0_off15_inb : ∀ (v0 : BitVec 32) (k0_hw1 : k0_chk1 v0), ∀ a, (k0_off15 v0) a + S1x384x256.size a ≤ S50x3072x256.size a := fun v0 k0_hw1 => k0_hw1.2.2.2.2.2.2.2.2.2.2.2.2.2.2.1
theorem k0_off16_inb : ∀ (v0 : BitVec 32) (k0_hw1 : k0_chk1 v0), ∀ a, (k0_off16 v0) a + S1x384x256.size a ≤ S50x3072x256.size a := fun v0 k0_hw1 => k0_hw1.2.2.2.2.2.2.2.2.2.2.2.2.2.2.2.1
theorem k0_off17_inb : ∀ (v0 : BitVec 32) (k0_hw1 : k0_chk1 v0), ∀ a, (k0_off17 v0) a + S1x384x256.size a ≤ S50x3072x256.size a := fun v0 k0_hw1 => k0_hw1.2.2.2.2.2.2.2.2.2.2.2.2.2.2.2.2.1
theorem k0_off18_inb : ∀ (v0 : BitVec 32) (k0_hw1 : k0_chk1 v0), ∀ a, (k0_off18 v0) a + S1x384x256.size a ≤ S50x3072x256.size a := fun v0 k0_hw1 => k0_hw1.2.2.2.2.2.2.2.2.2.2.2.2.2.2.2.2.2

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S50x256x3x32x32 : Shape := ⟨5, ![50, 256, 3, 32, 32]⟩
abbrev S50x256x10 : Shape := ⟨3, ![50, 256, 10]⟩
abbrev S_ : Shape := ⟨0, ![]⟩
abbrev S1x256x3x32x32 : Shape := ⟨5, ![1, 256, 3, 32, 32]⟩
abbrev S256x3x32x32 : Shape := ⟨4, ![256, 3, 32, 32]⟩
abbrev S1x256x10 : Shape := ⟨3, ![1, 256, 10]⟩
abbrev S256x10 : Shape := ⟨2, ![256, 10]⟩

abbrev nBuf : Space → Nat
  | .hbm => 69
  | .vmem => 0
  | .smem => 0
  | _ => 0

abbrev bufTy : (tb : Table) → Fin (tcTables nBuf tb) → BufTy
  | .hbm, ⟨0, _⟩ => ⟨S50x256x3x32x32, .f32⟩
  | .hbm, ⟨1, _⟩ => ⟨S50x256x10, .f32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x256x3x32x32, .f32⟩
  | .hbm, ⟨41, _⟩ => ⟨S256x3x32x32, .f32⟩
  | .hbm, ⟨42, _⟩ => ⟨S256x3x32x32, .f32⟩
  | .hbm, ⟨43, _⟩ => ⟨S_, .f32⟩
  | .hbm, ⟨44, _⟩ => ⟨S256x3x32x32, .f32⟩
  | .hbm, ⟨45, _⟩ => ⟨S256x3x32x32, .f32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x256x10, .f32⟩
  | .hbm, ⟨68, _⟩ => ⟨S256x10, .f32⟩
  | _, _ => ⟨S50x256x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_c_2 : Ref sig .tc := ⟨.hbm, 9, rfl⟩
abbrev main_v3 : Ref sig .tc := ⟨.hbm, 10, rfl⟩
abbrev main_c_3 : Ref sig .tc := ⟨.hbm, 11, rfl⟩
abbrev main_c_4 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_c_6 : Ref sig .tc := ⟨.hbm, 16, rfl⟩
abbrev main_c_7 : Ref sig .tc := ⟨.hbm, 17, rfl⟩
abbrev main_v6 : Ref sig .tc := ⟨.hbm, 18, rfl⟩
abbrev main_c_8 : Ref sig .tc := ⟨.hbm, 19, rfl⟩
abbrev main_c_9 : Ref sig .tc := ⟨.hbm, 20, rfl⟩
abbrev main_v7 : Ref sig .tc := ⟨.hbm, 21, rfl⟩
abbrev main_c_10 : Ref sig .tc := ⟨.hbm, 22, rfl⟩
abbrev main_v8 : Ref sig .tc := ⟨.hbm, 23, rfl⟩
abbrev main_c_11 : Ref sig .tc := ⟨.hbm, 24, rfl⟩
abbrev main_c_12 : Ref sig .tc := ⟨.hbm, 25, rfl⟩
abbrev main_v9 : Ref sig .tc := ⟨.hbm, 26, rfl⟩
abbrev main_c_13 : Ref sig .tc := ⟨.hbm, 27, rfl⟩
abbrev main_c_14 : Ref sig .tc := ⟨.hbm, 28, rfl⟩
abbrev main_v10 : Ref sig .tc := ⟨.hbm, 29, rfl⟩
abbrev main_c_15 : Ref sig .tc := ⟨.hbm, 30, rfl⟩
abbrev main_v11 : Ref sig .tc := ⟨.hbm, 31, rfl⟩
abbrev main_c_16 : Ref sig .tc := ⟨.hbm, 32, rfl⟩
abbrev main_c_17 : Ref sig .tc := ⟨.hbm, 33, rfl⟩
abbrev main_v12 : Ref sig .tc := ⟨.hbm, 34, rfl⟩
abbrev main_c_18 : Ref sig .tc := ⟨.hbm, 35, rfl⟩
abbrev main_c_19 : Ref sig .tc := ⟨.hbm, 36, rfl⟩
abbrev main_v13 : Ref sig .tc := ⟨.hbm, 37, rfl⟩
abbrev main_c_20 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst : Ref sig .tc := ⟨.hbm, 43, rfl⟩
abbrev main_v18 : Ref sig .tc := ⟨.hbm, 44, rfl⟩
abbrev main_v19 : Ref sig .tc := ⟨.hbm, 45, rfl⟩
abbrev main_c_21 : Ref sig .tc := ⟨.hbm, 46, rfl⟩
abbrev main_v20 : Ref sig .tc := ⟨.hbm, 47, rfl⟩
abbrev main_c_22 : Ref sig .tc := ⟨.hbm, 48, rfl⟩
abbrev main_v21 : Ref sig .tc := ⟨.hbm, 49, rfl⟩
abbrev main_v22 : Ref sig .tc := ⟨.hbm, 50, rfl⟩
abbrev main_c_23 : Ref sig .tc := ⟨.hbm, 51, rfl⟩
abbrev main_c_24 : Ref sig .tc := ⟨.hbm, 52, rfl⟩
abbrev main_v23 : Ref sig .tc := ⟨.hbm, 53, rfl⟩
abbrev main_c_25 : Ref sig .tc := ⟨.hbm, 54, rfl⟩
abbrev main_c_26 : Ref sig .tc := ⟨.hbm, 55, rfl⟩
abbrev main_v24 : Ref sig .tc := ⟨.hbm, 56, rfl⟩
abbrev main_c_27 : Ref sig .tc := ⟨.hbm, 57, rfl⟩
abbrev main_v25 : Ref sig .tc := ⟨.hbm, 58, rfl⟩
abbrev main_c_28 : Ref sig .tc := ⟨.hbm, 59, rfl⟩
abbrev main_c_29 : Ref sig .tc := ⟨.hbm, 60, rfl⟩
abbrev main_v26 : Ref sig .tc := ⟨.hbm, 61, rfl⟩
abbrev main_c_30 : Ref sig .tc := ⟨.hbm, 62, rfl⟩
abbrev main_c_31 : Ref sig .tc := ⟨.hbm, 63, rfl⟩
abbrev main_v27 : Ref sig .tc := ⟨.hbm, 64, rfl⟩
abbrev main_c_32 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩

abbrev nD : Nat := 1
abbrev τ : Topo := Topo.v7x

variable {F : FTy → Type} [FloatOps F]
-- ==== Proof.Body.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Batch
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev BufAt (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : BufAt (F := F) c M) : sProp 𝕄 :=
  M.view.loc (c : Thread nD τ) ↦{fullShare} f

abbrev mIn : Memref sig .tc .hbm S50x3072x256 .f32 := Memref.whole main_v1
abbrev mHot : Memref sig .tc .hbm S10x50x1x256 .f32 := Memref.whole main_v3
abbrev mOut : Memref sig .tc .hbm S3072x256 .f32 := Memref.whole main_v5_0
abbrev mHotOut : Memref sig .tc .hbm S10x1x256 .f32 := Memref.whole main_v5_1
abbrev mI : Memref sig .tc .vmem S8x384x256 .f32 := Memref.whole cc0_scratch0
abbrev mO : Memref sig .tc .vmem S8x384x256 .f32 := Memref.whole cc0_scratch1

/-- The seventeen transfer counters of the kernel's scratch, all at zero. -/
abbrev counters (c : Dev nD) : sProp 𝕄 :=
  iprop(semVal ((c : Thread nD τ), SemLoc.dma (sig := sig) 1) 0 ∗ semVal ((c : Thread nD τ), SemLoc.dma (sig := sig) 2) 0
      ∗ semVal ((c : Thread nD τ), SemLoc.dma (sig := sig) 3) 0 ∗ semVal ((c : Thread nD τ), SemLoc.dma (sig := sig) 4) 0
      ∗ semVal ((c : Thread nD τ), SemLoc.dma (sig := sig) 5) 0 ∗ semVal ((c : Thread nD τ), SemLoc.dma (sig := sig) 6) 0
      ∗ semVal ((c : Thread nD τ), SemLoc.dma (sig := sig) 7) 0 ∗ semVal ((c : Thread nD τ), SemLoc.dma (sig := sig) 8) 0
      ∗ semVal ((c : Thread nD τ), SemLoc.dma (sig := sig) 9) 0 ∗ semVal ((c : Thread nD τ), SemLoc.dma (sig := sig) 10) 0
      ∗ semVal ((c : Thread nD τ), SemLoc.dma (sig := sig) 11) 0 ∗ semVal ((c : Thread nD τ), SemLoc.dma (sig := sig) 12) 0
      ∗ semVal ((c : Thread nD τ), SemLoc.dma (sig := sig) 13) 0 ∗ semVal ((c : Thread nD τ), SemLoc.dma (sig := sig) 14) 0
      ∗ semVal ((c : Thread nD τ), SemLoc.dma (sig := sig) 15) 0 ∗ semVal ((c : Thread nD τ), SemLoc.dma (sig := sig) 16) 0
      ∗ semVal ((c : Thread nD τ), SemLoc.dma (sig := sig) 17) 0)

set_option sl_exec.dmaWindow true in
set_option maxHeartbeats 2000000 in
/-- One run of the kernel's body on a core that holds the staged word, the two scratch buffers and
    the four arrays whole: it returns them all, the counters back at zero, the two results at the
    contents named here. -/
def bodyRun (c : Dev nD) (arg0 : Memref sig .tc .smem S1 .i32) (harg0 : arg0.IsWhole) (fw : BufAt (F := F) c arg0)
    (hw : ∀ x, k0_chk1 (View.readAt (Elt F) arg0.view (Rect.unit (s := S1) ![0] S1.size inb_S1_S1_0).toLoadRect fw x))
    (fIn : BufAt (F := F) c mIn) (fHot : BufAt (F := F) c mHot) (fOut : BufAt (F := F) c mOut) (fHotOut : BufAt (F := F) c mHotOut)
    (fI : BufAt (F := F) c mI) (fO : BufAt (F := F) c mO)
    (_plan : Transfers.BatchOf (c : Thread nD τ) (SemLoc.dma (sig := sig) 17) 10 (windows := true)) :
    {g : BufAt (F := F) c mOut × BufAt (F := F) c mHotOut //
      ∀ (W : Waits sig Unit) (K : PUnit → sProp 𝕄),
        iprop((arg0.view.loc (c : Thread nD τ) ↦[arg0.view.set]{fullShare} fw)
          ∗ heldAt c mI fI ∗ heldAt c mO fO ∗ heldAt c mIn fIn ∗ heldAt c mHot fHot ∗ heldAt c mOut fOut ∗ heldAt c mHotOut fHotOut
          ∗ counters c ∗ owes (c : Thread nD τ) 0 W
          ∗ (((arg0.view.loc (c : Thread nD τ) ↦[arg0.view.set]{fullShare} fw)
            ∗ (∃ f, heldAt c mI f) ∗ (∃ f, heldAt c mO f) ∗ heldAt c mIn fIn ∗ heldAt c mHot fHot ∗ heldAt c mOut g.1 ∗ heldAt c mHotOut g.2
            ∗ counters c ∗ ∃ W', owes (c : Thread nD τ) 0 W') -∗ K ⟨⟩))
        ⊢ wp frame (wpE (defs₀ (F := F)) Variants.none c none) Set.univ
            (cc0__body arg0 harg0 mIn (Memref.isWhole_whole _) mHot (Memref.isWhole_whole _) mOut (Memref.isWhole_whole _) mHotOut (Memref.isWhole_whole _)
              mI (Memref.isWhole_whole _) mO (Memref.isWhole_whole _) cc0_scratch2 cc0_scratch3 cc0_scratch4) K} := by
  refine ⟨⟨?_, ?_⟩, ?_⟩
  rotate_left 2
  intro W K
  rw [cc0__body_eq_skeleton]
  unfold cc0__body_skel
  iintro ⟨Hw, HI, HO, Hin, Hhot, Hout, Hho, ⟨S1, S2, S3, S4, S5, S6, S7, S8, S9, S10, S11, S12, S13, S14, S15, S16, S17⟩, HW, Hk⟩
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton, k0_part12_eq_skeleton]
  unfold k0_part1_skel
  sl_exec
  sl_step
  iapply Hk
  isplitl [Hw]; iexact Hw
  isplitl [HI]; iexists _; iexact HI
  isplitl [HO]; iexists _; iexact HO
  isplitl [Hin]; iexact Hin
  isplitl [Hhot]; iexact Hhot
  isplitl [Hout]; iexact Hout
  isplitl [Hho]; iexact Hho
  isplitl [S1 S2 S3 S4 S5 S6 S7 S8 S9 S10 S11 S12 S13 S14 S15 S16 S17]
  · unfold counters
    isplitl [S1]; iexact S1
    isplitl [S2]; iexact S2
    isplitl [S3]; iexact S3
    isplitl [S4]; iexact S4
    isplitl [S5]; iexact S5
    isplitl [S6]; iexact S6
    isplitl [S7]; iexact S7
    isplitl [S8]; iexact S8
    isplitl [S9]; iexact S9
    isplitl [S10]; iexact S10
    isplitl [S11]; iexact S11
    isplitl [S12]; iexact S12
    isplitl [S13]; iexact S13
    isplitl [S14]; iexact S14
    isplitl [S15]; iexact S15
    isplitl [S16]; iexact S16
    iexact S17
  iexists _
  iexact HW

end Cert.Kernel.Hand

end
-- ==== Proof.Windows.lean ====
module

public import proofs.«01_k».proof.Proof.Gen.Kernel.Skeleton
public import Idealize.ShloMosaic.Lib.Pipeline.FrameBody
public import Idealize.ShloMosaic.Lib.Pipeline.Value
public import Idealize.ShloMosaic.Lib.PointwiseCore

/-! What the copies and the stores of the kernel leave, read at an index. Every fact is stated once
    over the number of the chunk (or of the row), and the eight chunks and the ten rows use it. -/

@[expose] public section

noncomputable section

namespace Cert.Kernel.Hand

open Cert.Kernel Cert.Kernel.Gen
open Idealize.ShloMosaic Idealize.ShloMosaic.TcCoe

/-! ## Pieces -/

section Pieces

variable {sg : RefSig} {κ : Kind} {sp : Space} {S S' : Shape} {e : EltTy} {Val : EltTy → Type}

/-- A copy into a squeezed window of a memref is a piece written through the window itself, its
    payload read at the squeezed index. -/
theorem write_squeezed (M : Memref sg κ sp S e) (r : Rect S) (hr : ∀ a, r.stride a = 1) (hq : r.shape.Squeezes S')
    (f : M.view.ty.Contents Val) (w : S'.Idx → Val e) (h : S'.numel = r.shape.numel) :
    ((M.slice r hr).squeeze S' hq).view.write Val f w Finset.univ
      = M.view.writes Val f [⟨r, fun x => w ((Shape.reshapeEquiv h).symm x)⟩] :=
  View.write_reshape_univ (M.view.slice r) h f w

/-- A memref after copies into a family of its squeezed windows, the head of the list the last. -/
abbrev afterCopies {ι : Type} (M : Memref sg κ sp S e) (rect : ι → Rect S) (hr : ∀ k a, (rect k).stride a = 1)
    (hq : ∀ k, (rect k).shape.Squeezes S') (f : M.view.ty.Contents Val) (w : ι → S'.Idx → Val e) (ks : List ι) : M.view.ty.Contents Val :=
  ks.foldr (fun k g => ((M.slice (rect k) (hr k)).squeeze S' (hq k)).view.write Val g (w k) Finset.univ) f

/-- Such copies are pieces written through the windows themselves. -/
theorem afterCopies_eq {ι : Type} (M : Memref sg κ sp S e) (rect : ι → Rect S) (hr : ∀ k a, (rect k).stride a = 1)
    (hq : ∀ k, (rect k).shape.Squeezes S') (f : M.view.ty.Contents Val) (w : ι → S'.Idx → Val e) (h : ∀ k, S'.numel = (rect k).shape.numel) :
    ∀ ks : List ι, afterCopies M rect hr hq f w ks
      = M.view.writes Val f (ks.map fun k => ⟨rect k, fun x => w k ((Shape.reshapeEquiv (h k)).symm x)⟩)
  | [] => rfl
  | k :: ks => by
    refine (write_squeezed M (rect k) (hr k) (hq k) (afterCopies M rect hr hq f w ks) (w k) (h k)).trans ?_
    rw [afterCopies_eq M rect hr hq f w h ks]
    rfl

/-- An element under some piece satisfies whatever every payload satisfies at the places it is
    written to. -/
theorem writes_hold (v : View sg κ sp S e) (f : v.ty.Contents Val) (P : S.Idx → Val e → Prop) (y : S.Idx) :
    ∀ L : List (View.Piece Val S e), (∀ p ∈ L, ∀ x : p.1.shape.Idx, P (p.1.emb x) (p.2 x)) →
      (∃ p ∈ L, y ∈ p.1.set) → P y (v.read Val (v.writes Val f L) y)
  | [], _, h => by obtain ⟨_, hm, _⟩ := h; exact absurd hm List.not_mem_nil
  | ⟨r, w⟩ :: L, hP, h => by
    by_cases hy : y ∈ r.set
    · obtain ⟨x, rfl⟩ : ∃ x, r.emb x = y := r.exists_idx_of_mem hy
      rw [View.read_writes_cons_emb]
      exact hP ⟨r, w⟩ List.mem_cons_self x
    · rw [View.writes_cons, View.read_slice_write_of_not_mem r _ _ _ (by rwa [Rect.map_emb_univ])]
      refine writes_hold v f P y L (fun q hq => hP q (List.mem_cons_of_mem _ hq)) ?_
      obtain ⟨q, hq, hyq⟩ := h
      rcases List.mem_cons.mp hq with rfl | hq'
      · exact absurd hyq hy
      · exact ⟨q, hq', hyq⟩

end Pieces

/-! ## What the kernel computes -/

variable {F : FTy → Type} [FloatOps F]

/-- The step a word names, of the fifty there are. -/
def stepOf (w : BitVec 32) : Fin 50 := ⟨w.toNat % 50, Nat.mod_lt _ (by decide)⟩

/-- The row of the full array that row `r` of chunk `k` is. -/
def rowOf (k : Fin 8) (r : Fin 384) : Fin 3072 := ⟨384 * k.val + r.val, by omega⟩

/-- One element of the result: twice the hyperbolic tangent. -/
def act (x : F .f32) : F .f32 := FloatOps.mulf (FloatOps.tanh x) (FloatOps.ofBits .f32 0x40000000#32)

/-- The input's rows at step `it`, in chunks. -/
def inChunks (it : Fin 50) (fIn : S50x3072x256.Idx → F .f32) (y : S8x384x256.Idx) : F .f32 :=
  fIn (ix3 (n0 := 50) (n1 := 3072) (n2 := 256) it (rowOf (y 0) (y 1)) (y 2))

/-- The rows of the result. -/
def outRows (it : Fin 50) (fIn : S50x3072x256.Idx → F .f32) (y : S3072x256.Idx) : F .f32 :=
  act (fIn (ix3 (n0 := 50) (n1 := 3072) (n2 := 256) it (y 0) (y 1)))

/-- The rows of the one-hot result. -/
def hotRows (it : Fin 50) (fHot : S10x50x1x256.Idx → F .f32) (y : S10x1x256.Idx) : F .f32 :=
  fHot (ix4 (n0 := 10) (n1 := 50) (n2 := 1) (n3 := 256) (y 0) it 0 (y 2))

/-- The activation of a chunk, between the two casts of its shape, is that of each element. -/
theorem act_chunk (v : Vec F S1x384x256 .f32) (y : S1x384x256.Idx) :
    shapeCast S1x384x256 (mulf (tanh (shapeCast S384x256 v shapeCasts_S1x384x256_S384x256)) (broadcast S384x256 (Scalar.ofBits .f32 0x40000000#32)))
      shapeCasts_S384x256_S1x384x256 y = act (v y) := by
  unfold act
  idx_vars y
  pointwise
  rw [Subsingleton.elim y0 0]

/-! ## Reading windows -/

/-- The rectangle of a chunk in a scratch buffer. -/
abbrev chunkRect (k : Fin 8) : Rect S8x384x256 :=
  Rect.unit (s := S8x384x256) ![k.val, 0, 0] S1x384x256.size fun a => by
    match a with
    | 0 => change k.val + 1 ≤ 8; omega
    | 1 => exact le_refl _
    | 2 => exact le_refl _

/-- The rectangle of a chunk in the result. -/
abbrev outRect (k : Fin 8) : Rect S3072x256 :=
  Rect.unit (s := S3072x256) ![384 * k.val, 0] S384x256.size fun a => by
    match a with
    | 0 => change 384 * k.val + 384 ≤ 3072; omega
    | 1 => exact le_refl _

/-- The rectangle of a row of the one-hot result. -/
abbrev hotRect (k : Fin 10) : Rect S10x1x256 :=
  Rect.unit (s := S10x1x256) ![k.val, 0, 0] S1x1x256.size fun a => by
    match a with
    | 0 => change k.val + 1 ≤ 10; omega
    | 1 => exact le_refl _
    | 2 => exact le_refl _

/-- A squeezed window read at the squeezed index of `x`: the memref read at the place of `x`. -/
theorem read_squeezed {sg : RefSig} {κ : Kind} {sp : Space} {S S' : Shape} {e : EltTy} {Val : EltTy → Type}
    (M : Memref sg κ sp S e) (r : Rect S) (hr : ∀ a, r.stride a = 1) (hq : r.shape.Squeezes S')
    (f : M.view.ty.Contents Val) (h : S'.numel = r.shape.numel) (x : r.shape.Idx) :
    ((M.slice r hr).squeeze S' hq).view.read Val f ((Shape.reshapeEquiv h).symm x) = M.view.read Val f (r.emb x) := by
  change (M.view.slice r).read Val f (Shape.reshapeEquiv h ((Shape.reshapeEquiv h).symm x)) = _
  rw [Equiv.apply_symm_apply]
  rfl

/-- A chunk's window of the input, read: the chunk's rows at the step the offset names. -/
theorem read_in (it : Fin 50) (k : Fin 8) (off : Fin 3 → ℕ) (ho : off = ![it.val, 384 * k.val, 0])
    (inb : ∀ a, off a + S1x384x256.size a ≤ S50x3072x256.size a)
    (M : Memref sig .tc .hbm S50x3072x256 .f32) (fIn : M.view.ty.Contents (Elt F))
    (h : S384x256.numel = (Rect.unit (s := S50x3072x256) off S1x384x256.size inb).shape.numel) (x : S1x384x256.Idx) :
    View.read (Elt F) ((M.slice (Rect.unit (s := S50x3072x256) off S1x384x256.size inb) (fun _ => rfl)).squeeze S384x256 squeezes_S1x384x256_S384x256).view fIn
        ((Shape.reshapeEquiv h).symm x)
      = inChunks it (M.view.read (Elt F) fIn) ((chunkRect k).emb x) := by
  subst ho
  refine (read_squeezed M _ _ _ fIn h x).trans ?_
  unfold inChunks
  refine congrArg (M.view.read (Elt F) fIn) (funext fun a => Fin.ext ?_)
  have h0 : (x 0).val < 1 := (x 0).isLt
  match a with
  | 0 => change it.val + 1 * (x 0).val = it.val; omega
  | 1 => change 384 * k.val + 1 * (x 1).val = 384 * (k.val + 1 * (x 0).val) + (0 + 1 * (x 1).val); omega
  | 2 => rfl

/-- The indices of a chunk in a scratch buffer: those whose first coordinate is the chunk's. -/
theorem mem_chunk (y : S8x384x256.Idx) : y ∈ (chunkRect (y 0)).set := by
  rw [← Rect.map_emb_univ]
  refine Finset.mem_map.mpr ⟨ix3 (n0 := 1) (n1 := 384) (n2 := 256) 0 (y 1) (y 2), Finset.mem_univ _, funext fun a => Fin.ext ?_⟩
  match a with
  | 0 => rfl
  | 1 => change 0 + 1 * (y 1).val = (y 1).val; omega
  | 2 => change 0 + 1 * (y 2).val = (y 2).val; omega

/-- The indices of a chunk in the result. -/
theorem mem_out (y : S3072x256.Idx) : ∃ k, y ∈ (outRect k).set := by
  have h0 : (y 0).val < 3072 := (y 0).isLt
  refine ⟨⟨(y 0).val / 384, by omega⟩, ?_⟩
  rw [← Rect.map_emb_univ]
  refine Finset.mem_map.mpr ⟨ix2 (n0 := 384) (n1 := 256) ⟨(y 0).val % 384, Nat.mod_lt _ (by decide)⟩ (y 1), Finset.mem_univ _, funext fun a => Fin.ext ?_⟩
  match a with
  | 0 => change 384 * ((y 0).val / 384) + 1 * ((y 0).val % 384) = (y 0).val; omega
  | 1 => change 0 + 1 * (y 1).val = (y 1).val; omega

/-- The indices of a row of the one-hot result. -/
theorem mem_hot (y : S10x1x256.Idx) : y ∈ (hotRect (y 0)).set := by
  rw [← Rect.map_emb_univ]
  refine Finset.mem_map.mpr ⟨ix3 (n0 := 1) (n1 := 1) (n2 := 256) 0 (y 1) (y 2), Finset.mem_univ _, funext fun a => Fin.ext ?_⟩
  match a with
  | 0 => rfl
  | 1 => change 0 + 1 * (y 1).val = (y 1).val; omega
  | 2 => change 0 + 1 * (y 2).val = (y 2).val; omega

/-- Where the one row of a squeezed window lies in the window. -/
theorem hot_symm (h : S1x256.numel = S1x1x256.numel) (x : S1x1x256.Idx) :
    (Shape.reshapeEquiv h).symm x = ix2 (n0 := 1) (n1 := 256) 0 (x 2) := by
  rw [Equiv.symm_apply_eq]
  idx_vars x
  pointwise
  rw [Subsingleton.elim x0 0, Subsingleton.elim x1 0]

/-- The same in a window of the labels. -/
theorem hot_in (h : S1x256.numel = S1x1x1x256.numel) (l : Fin 256) :
    Shape.reshapeEquiv h (ix2 (n0 := 1) (n1 := 256) 0 l) = ix4 (n0 := 1) (n1 := 1) (n2 := 1) (n3 := 256) 0 0 0 l := by
  pointwise

/-- A row's window of the labels, read: the row at the step the offset names. -/
theorem read_hot (it : Fin 50) (k : Fin 10) (off : Fin 4 → ℕ) (ho : off = ![k.val, it.val, 0, 0])
    (inb : ∀ a, off a + S1x1x1x256.size a ≤ S10x50x1x256.size a)
    (M : Memref sig .tc .hbm S10x50x1x256 .f32) (fHot : M.view.ty.Contents (Elt F))
    (h : S1x256.numel = S1x1x256.numel) (x : S1x1x256.Idx) :
    View.read (Elt F) ((M.slice (Rect.unit (s := S10x50x1x256) off S1x1x1x256.size inb) (fun _ => rfl)).squeeze S1x256 squeezes_S1x1x1x256_S1x256).view fHot
        ((Shape.reshapeEquiv h).symm x)
      = hotRows it (M.view.read (Elt F) fHot) ((hotRect k).emb x) := by
  subst ho
  rw [hot_symm h x]
  refine (congrArg ((M.view.slice (Rect.unit (s := S10x50x1x256) ![k.val, it.val, 0, 0] S1x1x1x256.size inb)).read (Elt F) fHot)
    (hot_in _ (x 2))).trans ?_
  unfold hotRows
  refine congrArg (M.view.read (Elt F) fHot) (funext fun a => Fin.ext ?_)
  have h0 : (x 0).val < 1 := (x 0).isLt
  match a with
  | 0 => change k.val + 1 * 0 = k.val + 1 * (x 0).val; omega
  | 1 => rfl
  | 2 => rfl
  | 3 => rfl

/-- Where an index of a squeezed chunk lies in the chunk. -/
theorem chunk_in (h : S384x256.numel = S1x384x256.numel) (z : S384x256.Idx) :
    Shape.reshapeEquiv h z = ix3 (n0 := 1) (n1 := 384) (n2 := 256) 0 (z 0) (z 1) := by
  idx_vars z
  pointwise

/-- A chunk of the scratch buffer of results, read through its window: the rows of the result there. -/
theorem read_chunk (it : Fin 50) (fIn : S50x3072x256.Idx → F .f32) (k : Fin 8) (M : Memref sig .tc .vmem S8x384x256 .f32)
    (g : M.view.ty.Contents (Elt F)) (hq : (chunkRect k).shape.Squeezes S384x256)
    (hg : ∀ x, M.view.read (Elt F) g ((chunkRect k).emb x) = act (inChunks it fIn ((chunkRect k).emb x))) (z : S384x256.Idx) :
    View.read (Elt F) ((M.slice (chunkRect k) (fun _ => rfl)).squeeze S384x256 hq).view g z
      = outRows it fIn ((outRect k).emb z) := by
  change M.view.read (Elt F) g ((chunkRect k).emb (Shape.reshapeEquiv _ z)) = _
  rw [hg, chunk_in]
  unfold outRows inChunks
  refine congrArg act (congrArg fIn (funext fun a => Fin.ext ?_))
  match a with
  | 0 => rfl
  | 1 => change 384 * (k.val + 1 * 0) + (0 + 1 * (z 0).val) = 384 * k.val + 1 * (z 0).val; omega
  | 2 => rfl

/-! ## The buffers after all their pieces -/

/-- A whole family of pieces, each holding the values of `T` at the places it is written to, leaves
    `T` wherever a piece of the family lies, in whatever order they were written. -/
theorem writes_family {sg : RefSig} {κ : Kind} {sp : Space} {S : Shape} {e : EltTy} {Val : EltTy → Type} {ι : Type}
    (v : View sg κ sp S e) (f : v.ty.Contents Val) (T : S.Idx → Val e) (rect : ι → Rect S) (w : ∀ k, (rect k).shape.Idx → Val e)
    (ks : List ι) (hw : ∀ k ∈ ks, ∀ x, w k x = T ((rect k).emb x)) (k : ι) (hk : k ∈ ks) (y : S.Idx) (hy : y ∈ (rect k).set) :
    v.read Val (v.writes Val f (ks.map fun k => ⟨rect k, w k⟩)) y = T y := by
  refine writes_hold v f (fun y a => a = T y) y _ (fun p hp x => ?_) ⟨⟨rect k, w k⟩, List.mem_map.mpr ⟨k, hk, rfl⟩, hy⟩
  obtain ⟨k', hk', rfl⟩ := List.mem_map.mp hp
  exact hw k' hk' x

end Cert.Kernel.Hand

end
-- ==== Proof.Values.lean ====
module

public import proofs.«01_k».proof.Proof.Body
public import proofs.«01_k».proof.Proof.Windows

/-! What one run of the body leaves in the two results: the activation of the step's rows, and the
    step's labels. Nothing of what the buffers held before is left. -/

@[expose] public section

noncomputable section

namespace Cert.Kernel.Hand

open Cert.Kernel Cert.Kernel.Gen
open Idealize.ShloMosaic Idealize.ShloMosaic.TcCoe

variable {F : FTy → Type} [FloatOps F]

variable (c : Dev nD) (arg0 : Memref sig .tc .smem S1 .i32) (harg0 : arg0.IsWhole) (fw : BufAt (F := F) c arg0)
  (hw : ∀ x, k0_chk1 (View.readAt (Elt F) arg0.view (Rect.unit (s := S1) ![0] S1.size inb_S1_S1_0).toLoadRect fw x))
  (fIn : BufAt (F := F) c mIn) (fHot : BufAt (F := F) c mHot) (fOut : BufAt (F := F) c mOut) (fHotOut : BufAt (F := F) c mHotOut)
  (fI : BufAt (F := F) c mI) (fO : BufAt (F := F) c mO)
  (plan : Transfers.BatchOf (c : Thread nD τ) (SemLoc.dma (sig := sig) 17) 10 (windows := true))

/-- The word the body reads. -/
abbrev stepWord (c : Dev nD) (arg0 : Memref sig .tc .smem S1 .i32) (fw : BufAt (F := F) c arg0) : BitVec 32 := bodyRun.sl.r c arg0 fw

include hw in
/-- The word passes the kernel's own bounds check, so it names one of the fifty steps. -/
theorem step_val : (stepOf (stepWord c arg0 fw)).val = (stepWord c arg0 fw).toNat := by
  have h : (stepWord c arg0 fw).toNat + 1 ≤ 50 := (hw (Shape.Idx.first (by decide))).1 1
  exact Nat.mod_eq_of_lt h

/-- The eight copies into the input scratch, as a family over the chunks. -/
abbrev copies : Fin 8 → S384x256.Idx → F .f32 := ![bodyRun.sl.dma1_1 c arg0 fw hw fIn, bodyRun.sl.dma1_2 c arg0 fw hw fIn, bodyRun.sl.dma1_3 c arg0 fw hw fIn, bodyRun.sl.dma1_4 c arg0 fw hw fIn, bodyRun.sl.dma1_5 c arg0 fw hw fIn, bodyRun.sl.dma1_6 c arg0 fw hw fIn, bodyRun.sl.dma1_7 c arg0 fw hw fIn, bodyRun.sl.dma1_8 c arg0 fw hw fIn]

/-- Every copy carries its chunk's rows of the input at the step. -/
theorem copies_hold (k : Fin 8) (x : S1x384x256.Idx) (h : S384x256.numel = S1x384x256.numel) :
    copies c arg0 fw hw fIn k ((Shape.reshapeEquiv h).symm x)
      = inChunks (stepOf (stepWord c arg0 fw)) fIn ((chunkRect k).emb x) := by
  have e := step_val c arg0 fw hw
  have hc : k0_chk1 (stepWord c arg0 fw) := hw (Shape.Idx.first (by decide))
  match k with
  | 0 => exact read_in _ 0 (k0_off11 (stepWord c arg0 fw)) (by rw [e]; rfl) (k0_off11_inb _ hc) mIn fIn h x
  | 1 => exact read_in _ 1 (k0_off12 (stepWord c arg0 fw)) (by rw [e]; rfl) (k0_off12_inb _ hc) mIn fIn h x
  | 2 => exact read_in _ 2 (k0_off13 (stepWord c arg0 fw)) (by rw [e]; rfl) (k0_off13_inb _ hc) mIn fIn h x
  | 3 => exact read_in _ 3 (k0_off14 (stepWord c arg0 fw)) (by rw [e]; rfl) (k0_off14_inb _ hc) mIn fIn h x
  | 4 => exact read_in _ 4 (k0_off15 (stepWord c arg0 fw)) (by rw [e]; rfl) (k0_off15_inb _ hc) mIn fIn h x
  | 5 => exact read_in _ 5 (k0_off16 (stepWord c arg0 fw)) (by rw [e]; rfl) (k0_off16_inb _ hc) mIn fIn h x
  | 6 => exact read_in _ 6 (k0_off17 (stepWord c arg0 fw)) (by rw [e]; rfl) (k0_off17_inb _ hc) mIn fIn h x
  | 7 => exact read_in _ 7 (k0_off18 (stepWord c arg0 fw)) (by rw [e]; rfl) (k0_off18_inb _ hc) mIn fIn h x

theorem numel_chunk (k : Fin 8) : S384x256.numel = (chunkRect k).shape.numel := Shape.Squeezes.numel_eq squeezes_S1x384x256_S384x256

/-- The input scratch with all the copies landed, the last one first. -/
abbrev landed : BufAt (F := F) c mI :=
  afterCopies (Val := Elt F) mI chunkRect (fun _ _ => rfl) (fun _ => squeezes_S1x384x256_S384x256) fI (copies c arg0 fw hw fIn) [7, 6, 5, 4, 3, 2, 1, 0]

/-- The input scratch, all copies landed, read at a chunk: the chunk's rows at the step. -/
theorem landed_holds (k : Fin 8) (x : S1x384x256.Idx) :
    View.read (Elt F) mI.view (landed c arg0 fw hw fIn fI) ((chunkRect k).emb x)
      = inChunks (stepOf (stepWord c arg0 fw)) fIn ((chunkRect k).emb x) := by
  unfold landed
  rw [afterCopies_eq mI chunkRect _ _ _ _ numel_chunk]
  refine writes_family mI.view fI (inChunks (stepOf (stepWord c arg0 fw)) fIn) chunkRect _ [7, 6, 5, 4, 3, 2, 1, 0] (fun k _ x => copies_hold c arg0 fw hw fIn k x _) k
    (by revert k; decide) _ ?_
  rw [← Rect.map_emb_univ]
  exact Finset.mem_map_of_mem _ (Finset.mem_univ x)

/-- What the eight loads read, as a family over the chunks. -/
abbrev loads : Fin 8 → S1x384x256.Idx → F .f32 := ![bodyRun.sl.v95 c arg0 fw hw fIn fI, bodyRun.sl.v114 c arg0 fw hw fIn fI, bodyRun.sl.v133 c arg0 fw hw fIn fI, bodyRun.sl.v152 c arg0 fw hw fIn fI, bodyRun.sl.v171 c arg0 fw hw fIn fI, bodyRun.sl.v190 c arg0 fw hw fIn fI, bodyRun.sl.v c arg0 fw hw fIn fI, bodyRun.sl.v228 c arg0 fw hw fIn fI]

/-- Every load reads its chunk of the landed input. -/
theorem loads_hold (k : Fin 8) (x : S1x384x256.Idx) :
    loads c arg0 fw hw fIn fI k x = inChunks (stepOf (stepWord c arg0 fw)) fIn ((chunkRect k).emb x) := by
  match k with
  | 0 => exact landed_holds c arg0 fw hw fIn fI 0 x
  | 1 => exact landed_holds c arg0 fw hw fIn fI 1 x
  | 2 => exact landed_holds c arg0 fw hw fIn fI 2 x
  | 3 => exact landed_holds c arg0 fw hw fIn fI 3 x
  | 4 => exact landed_holds c arg0 fw hw fIn fI 4 x
  | 5 => exact landed_holds c arg0 fw hw fIn fI 5 x
  | 6 => exact landed_holds c arg0 fw hw fIn fI 6 x
  | 7 => exact landed_holds c arg0 fw hw fIn fI 7 x

/-- What the eight stores write, as a family over the chunks. -/
abbrev stores (k : Fin 8) : S1x384x256.Idx → F .f32 :=
  shapeCast S1x384x256 (mulf (tanh (shapeCast S384x256 (loads c arg0 fw hw fIn fI k : Vec F S1x384x256 .f32) shapeCasts_S1x384x256_S384x256))
    (broadcast S384x256 (Scalar.ofBits .f32 0x40000000#32))) shapeCasts_S384x256_S1x384x256

/-- Every store writes the activation of its chunk's rows. -/
theorem stores_hold (k : Fin 8) (x : S1x384x256.Idx) :
    stores c arg0 fw hw fIn fI k x = act (inChunks (stepOf (stepWord c arg0 fw)) fIn ((chunkRect k).emb x)) :=
  (act_chunk _ x).trans (congrArg act (loads_hold c arg0 fw hw fIn fI k x))

/-- The pieces of the output scratch after the stores of the chunks `ks`. -/
abbrev stored (ks : List (Fin 8)) : BufAt (F := F) c mO :=
  mO.view.writes (Elt F) fO (ks.map fun k => ⟨chunkRect k, stores c arg0 fw hw fIn fI k⟩)

/-- The output scratch after some of the stores, at a chunk already stored. -/
theorem stored_holds (ks : List (Fin 8)) (k : Fin 8) (hk : k ∈ ks) (x : S1x384x256.Idx) :
    View.read (Elt F) mO.view (stored c arg0 fw hw fIn fI fO ks) ((chunkRect k).emb x)
      = act (inChunks (stepOf (stepWord c arg0 fw)) fIn ((chunkRect k).emb x)) := by
  refine writes_family mO.view fO (fun y => act (inChunks (stepOf (stepWord c arg0 fw)) fIn y)) chunkRect _ ks
    (fun k _ x => stores_hold c arg0 fw hw fIn fI k x) k hk _ ?_
  rw [← Rect.map_emb_univ]
  exact Finset.mem_map_of_mem _ (Finset.mem_univ x)

/-! The pieces of the output scratch, store by store. -/

section

abbrev pieces (ks : List (Fin 8)) : List (View.Piece (Elt F) S8x384x256 .f32) :=
  ks.map fun k => ⟨chunkRect k, stores c arg0 fw hw fIn fI k⟩

theorem pieces1_eq : bodyRun.sl.HO_1 c arg0 fw hw fIn fI = pieces c arg0 fw hw fIn fI [0] := rfl

theorem pieces2_eq : bodyRun.sl.HO_2 c arg0 fw hw fIn fI = pieces c arg0 fw hw fIn fI [1, 0] :=
  congrArg (_ :: ·) (pieces1_eq c arg0 fw hw fIn fI)

theorem pieces3_eq : bodyRun.sl.HO_3 c arg0 fw hw fIn fI = pieces c arg0 fw hw fIn fI [2, 1, 0] :=
  congrArg (_ :: ·) (pieces2_eq c arg0 fw hw fIn fI)

theorem pieces4_eq : bodyRun.sl.HO_4 c arg0 fw hw fIn fI = pieces c arg0 fw hw fIn fI [3, 2, 1, 0] :=
  congrArg (_ :: ·) (pieces3_eq c arg0 fw hw fIn fI)

theorem pieces5_eq : bodyRun.sl.HO_5 c arg0 fw hw fIn fI = pieces c arg0 fw hw fIn fI [4, 3, 2, 1, 0] :=
  congrArg (_ :: ·) (pieces4_eq c arg0 fw hw fIn fI)

theorem pieces6_eq : bodyRun.sl.HO_6 c arg0 fw hw fIn fI = pieces c arg0 fw hw fIn fI [5, 4, 3, 2, 1, 0] :=
  congrArg (_ :: ·) (pieces5_eq c arg0 fw hw fIn fI)

theorem pieces7_eq : bodyRun.sl.HO_7 c arg0 fw hw fIn fI = pieces c arg0 fw hw fIn fI [6, 5, 4, 3, 2, 1, 0] :=
  congrArg (_ :: ·) (pieces6_eq c arg0 fw hw fIn fI)

theorem pieces8_eq : bodyRun.sl.HO_8 c arg0 fw hw fIn fI = pieces c arg0 fw hw fIn fI [7, 6, 5, 4, 3, 2, 1, 0] :=
  congrArg (_ :: ·) (pieces7_eq c arg0 fw hw fIn fI)

end

/-- What the eight copies into the result carry, as a family over the chunks. -/
abbrev outs : Fin 8 → S384x256.Idx → F .f32 := ![bodyRun.sl.dma4_1 c arg0 fw hw fIn fI fO, bodyRun.sl.dma7_1 c arg0 fw hw fIn fI fO, bodyRun.sl.dma10_1 c arg0 fw hw fIn fI fO, bodyRun.sl.dma13 c arg0 fw hw fIn fI fO, bodyRun.sl.dma16 c arg0 fw hw fIn fI fO, bodyRun.sl.dma19 c arg0 fw hw fIn fI fO, bodyRun.sl.dma22 c arg0 fw hw fIn fI fO, bodyRun.sl.dma25 c arg0 fw hw fIn fI fO]

/-- A copy out of the output scratch, made after the stores of the chunks `ks`, carries its chunk of the result. -/
theorem out_holds (ks : List (Fin 8)) (k : Fin 8) (hk : k ∈ ks) (z : S384x256.Idx) :
    View.read (Elt F) ((mO.slice (chunkRect k) (fun _ => rfl)).squeeze S384x256 squeezes_S1x384x256_S384x256).view (stored c arg0 fw hw fIn fI fO ks) z
      = outRows (stepOf (stepWord c arg0 fw)) fIn ((outRect k).emb z) :=
  read_chunk _ fIn k mO _ _ (fun x => stored_holds c arg0 fw hw fIn fI fO ks k hk x) z

/-- What holds of each of eight things holds of their family. -/
theorem of_eight {α : Type} (P : Fin 8 → α → Prop) {a0 a1 a2 a3 a4 a5 a6 a7 : α} (h0 : P 0 a0) (h1 : P 1 a1) (h2 : P 2 a2) (h3 : P 3 a3) (h4 : P 4 a4) (h5 : P 5 a5) (h6 : P 6 a6) (h7 : P 7 a7) :
    ∀ k, P k ((![a0, a1, a2, a3, a4, a5, a6, a7] : Fin 8 → α) k)
  | 0 => h0
  | 1 => h1
  | 2 => h2
  | 3 => h3
  | 4 => h4
  | 5 => h5
  | 6 => h6
  | 7 => h7

/-- Every copy into the result carries its chunk's rows of the result. -/
theorem outs_hold (k : Fin 8) : ∀ z : S384x256.Idx,
    outs c arg0 fw hw fIn fI fO k z = outRows (stepOf (stepWord c arg0 fw)) fIn ((outRect k).emb z) := by
  refine of_eight (fun (k : Fin 8) (a : S384x256.Idx → F .f32) => ∀ z : S384x256.Idx, a z = outRows (stepOf (stepWord c arg0 fw)) fIn ((outRect k).emb z))
    ?_ ?_ ?_ ?_ ?_ ?_ ?_ ?_ k
  · unfold bodyRun.sl.dma4_1; rw [pieces1_eq]; exact out_holds c arg0 fw hw fIn fI fO [0] 0 (by decide)
  · unfold bodyRun.sl.dma7_1; rw [pieces2_eq]; exact out_holds c arg0 fw hw fIn fI fO [1, 0] 1 (by decide)
  · unfold bodyRun.sl.dma10_1; rw [pieces3_eq]; exact out_holds c arg0 fw hw fIn fI fO [2, 1, 0] 2 (by decide)
  · unfold bodyRun.sl.dma13; rw [pieces4_eq]; exact out_holds c arg0 fw hw fIn fI fO [3, 2, 1, 0] 3 (by decide)
  · unfold bodyRun.sl.dma16; rw [pieces5_eq]; exact out_holds c arg0 fw hw fIn fI fO [4, 3, 2, 1, 0] 4 (by decide)
  · unfold bodyRun.sl.dma19; rw [pieces6_eq]; exact out_holds c arg0 fw hw fIn fI fO [5, 4, 3, 2, 1, 0] 5 (by decide)
  · unfold bodyRun.sl.dma22; rw [pieces7_eq]; exact out_holds c arg0 fw hw fIn fI fO [6, 5, 4, 3, 2, 1, 0] 6 (by decide)
  · unfold bodyRun.sl.dma25; rw [pieces8_eq]; exact out_holds c arg0 fw hw fIn fI fO [7, 6, 5, 4, 3, 2, 1, 0] 7 (by decide)

/-- Eight pieces over the blocks of the result are the family of them. -/
theorem out_family (a0 a1 a2 a3 a4 a5 a6 a7 : S384x256.Idx → F .f32) : mOut.view.writes (Elt F) fOut
      [⟨Rect.unit (s := S3072x256) ![2688, 0] S384x256.size inb_S3072x256_S384x256_2688_0, a7⟩,
        ⟨Rect.unit (s := S3072x256) ![2304, 0] S384x256.size inb_S3072x256_S384x256_2304_0, a6⟩,
        ⟨Rect.unit (s := S3072x256) ![1920, 0] S384x256.size inb_S3072x256_S384x256_1920_0, a5⟩,
        ⟨Rect.unit (s := S3072x256) ![1536, 0] S384x256.size inb_S3072x256_S384x256_1536_0, a4⟩,
        ⟨Rect.unit (s := S3072x256) ![1152, 0] S384x256.size inb_S3072x256_S384x256_1152_0, a3⟩,
        ⟨Rect.unit (s := S3072x256) ![768, 0] S384x256.size inb_S3072x256_S384x256_768_0, a2⟩,
        ⟨Rect.unit (s := S3072x256) ![384, 0] S384x256.size inb_S3072x256_S384x256_384_0, a1⟩,
        ⟨Rect.unit (s := S3072x256) ![0, 0] S384x256.size inb_S3072x256_S384x256_0_0, a0⟩]
    = mOut.view.writes (Elt F) fOut ([7, 6, 5, 4, 3, 2, 1, 0].map fun k : Fin 8 => ⟨outRect k, (![a0, a1, a2, a3, a4, a5, a6, a7] : Fin 8 → S384x256.Idx → F .f32) k⟩) := rfl

set_option maxHeartbeats 2000000 in
/-- The first result after a run of the body. -/
theorem out_eq : (bodyRun c arg0 harg0 fw hw fIn fHot fOut fHotOut fI fO plan).1.1 = outRows (stepOf (stepWord c arg0 fw)) fIn := by
  unfold bodyRun
  dsimp only
  refine (out_family c fOut _ _ _ _ _ _ _ _).trans (funext fun y => ?_)
  obtain ⟨k, hk⟩ := mem_out y
  exact writes_family mOut.view fOut (outRows (stepOf (stepWord c arg0 fw)) fIn) outRect (outs c arg0 fw hw fIn fI fO) [7, 6, 5, 4, 3, 2, 1, 0]
    (fun k _ x => outs_hold c arg0 fw hw fIn fI fO k x) k (by clear hk; revert k; decide) y hk

/-- The ten copies of the labels, as a family over the rows. -/
abbrev hots : Fin 10 → S1x256.Idx → F .f32 := ![bodyRun.sl.dma1 c arg0 fw hw fHot, bodyRun.sl.dma2 c arg0 fw hw fHot, bodyRun.sl.dma3 c arg0 fw hw fHot, bodyRun.sl.dma4 c arg0 fw hw fHot, bodyRun.sl.dma5 c arg0 fw hw fHot, bodyRun.sl.dma6 c arg0 fw hw fHot, bodyRun.sl.dma7 c arg0 fw hw fHot, bodyRun.sl.dma8 c arg0 fw hw fHot, bodyRun.sl.dma9 c arg0 fw hw fHot, bodyRun.sl.dma10 c arg0 fw hw fHot]

/-- Every copy of the labels carries its row at the step. -/
theorem hots_hold (k : Fin 10) (x : S1x1x256.Idx) (h : S1x256.numel = S1x1x256.numel) :
    hots c arg0 fw hw fHot k ((Shape.reshapeEquiv h).symm x) = hotRows (stepOf (stepWord c arg0 fw)) fHot ((hotRect k).emb x) := by
  have e := step_val c arg0 fw hw
  have hc : k0_chk1 (stepWord c arg0 fw) := hw (Shape.Idx.first (by decide))
  match k with
  | 0 => exact read_hot _ 0 (k0_off1 (stepWord c arg0 fw)) (by rw [e]; rfl) (k0_off1_inb _ hc) mHot fHot h x
  | 1 => exact read_hot _ 1 (k0_off2 (stepWord c arg0 fw)) (by rw [e]; rfl) (k0_off2_inb _ hc) mHot fHot h x
  | 2 => exact read_hot _ 2 (k0_off3 (stepWord c arg0 fw)) (by rw [e]; rfl) (k0_off3_inb _ hc) mHot fHot h x
  | 3 => exact read_hot _ 3 (k0_off4 (stepWord c arg0 fw)) (by rw [e]; rfl) (k0_off4_inb _ hc) mHot fHot h x
  | 4 => exact read_hot _ 4 (k0_off5 (stepWord c arg0 fw)) (by rw [e]; rfl) (k0_off5_inb _ hc) mHot fHot h x
  | 5 => exact read_hot _ 5 (k0_off6 (stepWord c arg0 fw)) (by rw [e]; rfl) (k0_off6_inb _ hc) mHot fHot h x
  | 6 => exact read_hot _ 6 (k0_off7 (stepWord c arg0 fw)) (by rw [e]; rfl) (k0_off7_inb _ hc) mHot fHot h x
  | 7 => exact read_hot _ 7 (k0_off8 (stepWord c arg0 fw)) (by rw [e]; rfl) (k0_off8_inb _ hc) mHot fHot h x
  | 8 => exact read_hot _ 8 (k0_off9 (stepWord c arg0 fw)) (by rw [e]; rfl) (k0_off9_inb _ hc) mHot fHot h x
  | 9 => exact read_hot _ 9 (k0_off10 (stepWord c arg0 fw)) (by rw [e]; rfl) (k0_off10_inb _ hc) mHot fHot h x

theorem numel_hot (k : Fin 10) : S1x256.numel = (hotRect k).shape.numel := Shape.Squeezes.numel_eq squeezes_S1x1x256_S1x256

/-- Ten copies into the rows of the second result are the family of them. -/
theorem hot_family (a0 a1 a2 a3 a4 a5 a6 a7 a8 a9 : S1x256.Idx → F .f32) :
    (((mHotOut.slice (Rect.unit (s := S10x1x256) ![9, 0, 0] S1x1x256.size inb_S10x1x256_S1x1x256_9_0_0) (fun _ => rfl)).squeeze S1x256 squeezes_S1x1x256_S1x256).view.write (Elt F)
      (((mHotOut.slice (Rect.unit (s := S10x1x256) ![8, 0, 0] S1x1x256.size inb_S10x1x256_S1x1x256_8_0_0) (fun _ => rfl)).squeeze S1x256 squeezes_S1x1x256_S1x256).view.write (Elt F)
      (((mHotOut.slice (Rect.unit (s := S10x1x256) ![7, 0, 0] S1x1x256.size inb_S10x1x256_S1x1x256_7_0_0) (fun _ => rfl)).squeeze S1x256 squeezes_S1x1x256_S1x256).view.write (Elt F)
      (((mHotOut.slice (Rect.unit (s := S10x1x256) ![6, 0, 0] S1x1x256.size inb_S10x1x256_S1x1x256_6_0_0) (fun _ => rfl)).squeeze S1x256 squeezes_S1x1x256_S1x256).view.write (Elt F)
      (((mHotOut.slice (Rect.unit (s := S10x1x256) ![5, 0, 0] S1x1x256.size inb_S10x1x256_S1x1x256_5_0_0) (fun _ => rfl)).squeeze S1x256 squeezes_S1x1x256_S1x256).view.write (Elt F)
      (((mHotOut.slice (Rect.unit (s := S10x1x256) ![4, 0, 0] S1x1x256.size inb_S10x1x256_S1x1x256_4_0_0) (fun _ => rfl)).squeeze S1x256 squeezes_S1x1x256_S1x256).view.write (Elt F)
      (((mHotOut.slice (Rect.unit (s := S10x1x256) ![3, 0, 0] S1x1x256.size inb_S10x1x256_S1x1x256_3_0_0) (fun _ => rfl)).squeeze S1x256 squeezes_S1x1x256_S1x256).view.write (Elt F)
      (((mHotOut.slice (Rect.unit (s := S10x1x256) ![2, 0, 0] S1x1x256.size inb_S10x1x256_S1x1x256_2_0_0) (fun _ => rfl)).squeeze S1x256 squeezes_S1x1x256_S1x256).view.write (Elt F)
      (((mHotOut.slice (Rect.unit (s := S10x1x256) ![1, 0, 0] S1x1x256.size inb_S10x1x256_S1x1x256_1_0_0) (fun _ => rfl)).squeeze S1x256 squeezes_S1x1x256_S1x256).view.write (Elt F)
      (((mHotOut.slice (Rect.unit (s := S10x1x256) ![0, 0, 0] S1x1x256.size inb_S10x1x256_S1x1x256_0_0_0) (fun _ => rfl)).squeeze S1x256 squeezes_S1x1x256_S1x256).view.write (Elt F)
      fHotOut a0 Finset.univ) a1 Finset.univ) a2 Finset.univ) a3 Finset.univ) a4 Finset.univ) a5 Finset.univ) a6 Finset.univ) a7 Finset.univ) a8 Finset.univ) a9 Finset.univ)
    = afterCopies (Val := Elt F) mHotOut hotRect (fun _ _ => rfl) (fun _ => squeezes_S1x1x256_S1x256) fHotOut
      (![a0, a1, a2, a3, a4, a5, a6, a7, a8, a9] : Fin 10 → S1x256.Idx → F .f32) [9, 8, 7, 6, 5, 4, 3, 2, 1, 0] := rfl

set_option maxHeartbeats 2000000 in
/-- The second result after a run of the body. -/
theorem hot_eq : (bodyRun c arg0 harg0 fw hw fIn fHot fOut fHotOut fI fO plan).1.2 = hotRows (stepOf (stepWord c arg0 fw)) fHot := by
  unfold bodyRun
  dsimp only
  refine (hot_family c fHotOut _ _ _ _ _ _ _ _ _ _).trans ?_
  rw [afterCopies_eq mHotOut hotRect _ _ _ _ numel_hot]
  funext y
  exact writes_family mHotOut.view fHotOut (hotRows (stepOf (stepWord c arg0 fw)) fHot) hotRect _ [9, 8, 7, 6, 5, 4, 3, 2, 1, 0]
    (fun k _ x => hots_hold c arg0 fw hw fHot k x _) (y 0) ((by decide : ∀ k : Fin 10, k ∈ [9, 8, 7, 6, 5, 4, 3, 2, 1, 0]) (y 0)) y (mem_hot y)

end Cert.Kernel.Hand

end
-- ==== Proof.Launch.lean ====
module

public import proofs.«01_k».proof.Proof.Gen.Kernel.Frame
public import proofs.«01_k».proof.Proof.Values
public import Idealize.ShloMosaic.Lib.Pipeline.FrameSuffixV
public import Idealize.ShloMosaic.Lib.StableHlo.ReadAt

/-! The whole program around one run of the body: the host lines before the kernel, the kernel, the
    host lines after it. What every array holds at the end is named, and every counter is zero. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The word -/

/-- The step's word, as launched. -/
abbrev word (c : Dev nD) : BitVec 32 := m ((c : Thread nD τ).loc main_arg2) (fun a : Fin 0 => a.elim0)

/-- The buffer of one element that the kernel stages holds the word. -/
theorem V_word (c : Dev nD) (y : S1.Idx) : V m c main_v4 y = word m c := by
  unfold V V0
  after_reads_simp
  exact congrArg (m ((c : Thread nD τ).loc main_arg2)) (funext fun a : Fin 0 => a.elim0)

/-- A row of the labels at a step below fifty lies in the labels. -/
theorem hot_inb (w : BitVec 32) (h : w.toNat < 50) (k : ℕ) (hk : k < 10) (a : Fin 4) :
    (![k, w.toNat, 0, 0] : Fin 4 → ℕ) a + S1x1x1x256.size a ≤ S10x50x1x256.size a := by
  match a with
  | 0 => change k + 1 ≤ 10; omega
  | 1 => change w.toNat + 1 ≤ 50; omega
  | 2 => exact le_refl _
  | 3 => exact le_refl _

/-- A chunk of the input at a step below fifty lies in the input. -/
theorem in_inb (w : BitVec 32) (h : w.toNat < 50) (r : ℕ) (hr : r + 384 ≤ 3072) (a : Fin 3) :
    (![w.toNat, r, 0] : Fin 3 → ℕ) a + S1x384x256.size a ≤ S50x3072x256.size a := by
  match a with
  | 0 => change w.toNat + 1 ≤ 50; omega
  | 1 => change r + 384 ≤ 3072; omega
  | 2 => exact le_refl _

/-- A word below fifty passes the kernel's bounds check. -/
theorem chk_of_lt (w : BitVec 32) (h : w.toNat < 50) : k0_chk1 w :=
  ⟨hot_inb w h 0 (by decide), hot_inb w h 1 (by decide), hot_inb w h 2 (by decide), hot_inb w h 3 (by decide), hot_inb w h 4 (by decide), hot_inb w h 5 (by decide), hot_inb w h 6 (by decide), hot_inb w h 7 (by decide), hot_inb w h 8 (by decide), hot_inb w h 9 (by decide),
    in_inb w h 0 (by decide), in_inb w h 384 (by decide), in_inb w h 768 (by decide), in_inb w h 1152 (by decide), in_inb w h 1536 (by decide), in_inb w h 1920 (by decide), in_inb w h 2304 (by decide), in_inb w h 2688 (by decide)⟩

/-! ## What the launch needs of the kernel's buffers and counters -/

/-- The seventeen counters of the kernel's scratch. -/
abbrev osem0 : Fin 17 → SemLoc sig := fun j => (![SemLoc.dma 1, SemLoc.dma 2, SemLoc.dma 3, SemLoc.dma 4, SemLoc.dma 5, SemLoc.dma 6,
  SemLoc.dma 7, SemLoc.dma 8, SemLoc.dma 9, SemLoc.dma 10, SemLoc.dma 11, SemLoc.dma 12, SemLoc.dma 13, SemLoc.dma 14, SemLoc.dma 15,
  SemLoc.dma 16, SemLoc.dma 17] : Fin 17 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = counters c := by
  rw [Pipeline.ownSems0_eq_of_list c osem0 [0, 1, 2, 3, 4, 5, 6, 7, 8, 9, 10, 11, 12, 13, 14, 15, 16] (by decide) (by decide)]; rfl

/-- The arrays the kernel reads. -/
def H0 : Finset (Ref sig .tc) := {main_v1, main_v3}
/-- The arrays the kernel writes. -/
def R0 : Finset (Ref sig .tc) := {main_v5_0, main_v5_1}
theorem H0_sub : H0 ⊆ Pipeline.restRefs sig spec0 := by decide
theorem R0_sub : R0 ⊆ Pipeline.restRefs sig spec0 \ H0 := by decide

theorem readPts_eq (c : Dev nD) (X : (b : Ref sig .tc) → Buf (Elt F) ((c : Thread nD τ).loc b)) :
    (bigSep H0 (fun b => ((c : Thread nD τ).loc b) ↦{fullShare} X b) : sProp 𝕄) = iprop(heldAt c mIn (X main_v1) ∗ heldAt c mHot (X main_v3)) := by
  rw [BI.bigSep_eq_bigSepL_of_eq [main_v1, main_v3] (by decide) (by decide)]; rfl
theorem writtenPts_eq (c : Dev nD) (X : (b : Ref sig .tc) → Buf (Elt F) ((c : Thread nD τ).loc b)) :
    (bigSep R0 (fun b => ((c : Thread nD τ).loc b) ↦{fullShare} X b) : sProp 𝕄) = iprop(heldAt c mOut (X main_v5_0) ∗ heldAt c mHotOut (X main_v5_1)) := by
  rw [BI.bigSep_eq_bigSepL_of_eq [main_v5_0, main_v5_1] (by decide) (by decide)]; rfl

/-! ## What the kernel leaves -/

/-- Every array after the kernel: the two results at the step's rows and labels, the others as they were. -/
def G (c : Dev nD) : (b : Ref sig .tc) → Buf (Elt F) ((c : Thread nD τ).loc b) :=
  Function.update (Function.update (V m c) main_v5_0 (outRows (stepOf (word m c)) (V m c main_v1))) main_v5_1 (hotRows (stepOf (word m c)) (V m c main_v3))

theorem G_out (c : Dev nD) : G m c main_v5_0 = outRows (stepOf (word m c)) (V m c main_v1) := by
  unfold G
  rw [Function.update_of_ne (by decide), Function.update_self]
theorem G_hot (c : Dev nD) : G m c main_v5_1 = hotRows (stepOf (word m c)) (V m c main_v3) := by
  unfold G
  rw [Function.update_self]

/-- What the kernel holds besides its window: before it the arrays as the host lines leave them, after it the results too. -/
abbrev inv (c : Dev nD) (X : (c : Dev nD) → (b : Ref sig .tc) → Buf (Elt F) ((c : Thread nD τ).loc b)) : sProp 𝕄 :=
  Pipeline.ΦDRV osem0 spec0 H0 R0 (V m) X c

theorem inv_eq (c : Dev nD) (X : (c : Dev nD) → (b : Ref sig .tc) → Buf (Elt F) ((c : Thread nD τ).loc b)) :
    inv m c X = iprop(((∃ f, heldAt c mI f) ∗ (∃ f, heldAt c mO f)) ∗ counters c ∗ (heldAt c mIn (V m c main_v1) ∗ heldAt c mHot (V m c main_v3))
      ∗ (heldAt c mOut (X c main_v5_0) ∗ heldAt c mHotOut (X c main_v5_1))) := by
  unfold inv Pipeline.ΦDRV
  rw [scopedRest0_eq, ownSems00_eq, readPts_eq, writtenPts_eq]

/-- The proof data of the kernel's one window, the word. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := if t = 0 then inv m c (V m) else inv m c (G m)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t := by
  refine ((dats m 0 c).before_in_eq_fetched 0 rfl (fun _ => rfl) (fun _ _ _ => rfl) (fun t => by rw [after0_0]; unfold Dat.blockOf iblk; rw [A_eq]; try rfl) t d).trans ?_
  unfold Dat.fetched Dat.blockOf iblk
  rw [A_eq]
  try rfl

/-- The staged block is the word. -/
theorem iblk_word (c : Dev nD) (t : Fin cfg0.N) (y : S1.Idx) : iblk m c 0 t y = word m c := V_word m c _

abbrev ms0 (t : Fin cfg0.N) : Memref sig .tc .smem S1 .i32 := win0_0.stage (cfg0.slots t 0)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t))

theorem Phi_castSucc (c : Dev nD) (t : Fin cfg0.N) : (dats m 0 c).Φ t.castSucc = inv m c (V m) := by
  rw [fin_N0 t]; dsimp only [dats]; exact if_pos rfl
theorem Phi_succ (c : Dev nD) (t : Fin cfg0.N) : (dats m 0 c).Φ t.succ = inv m c (G m) := by
  rw [fin_N0 t]; dsimp only [dats]; exact if_neg (by decide)

variable (hlt : ∀ c, (word m c).toNat < 50)

include hlt in
/-- One run of the body takes the arrays as the host lines leave them to the two results named above. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_castSucc, Phi_succ, inv_eq, inv_eq, after0_0, G_out, G_hot]
  simp only [before0_0]
  unfold Dat.owesAt Pipeline.owesWithin
  rw [show (dats m 0 c).owed t.castSucc = 0 from rfl, show (dats m 0 c).owed t.succ = 0 from rfl]
  unfold owns
  iintro ⟨⟨⟨⟨%fI, HI⟩, ⟨%fO, HO⟩⟩, Hs, ⟨Hin, Hhot⟩, ⟨Hout, Hho⟩⟩, ⟨%W, -, HW⟩, ⟨%d0, ⟨%fw, %hfw, Hw⟩⟩⟩
  have hword : ∀ x, View.readAt (Elt F) (ms0 t).view (Rect.unit (s := S1) ![0] S1.size inb_S1_S1_0).toLoadRect fw x = word m c := fun x =>
    (congrFun hfw _).trans (iblk_word m c t _)
  have hw : ∀ x, k0_chk1 (View.readAt (Elt F) (ms0 t).view (Rect.unit (s := S1) ![0] S1.size inb_S1_S1_0).toLoadRect fw x) := fun x => by
    rw [hword x]; exact chk_of_lt _ (hlt c)
  have hstep : stepWord c (ms0 t) fw = word m c := hword _
  iapply ((bodyRun c (ms0 t) (hstage0_0 0) fw hw (V m c main_v1) (V m c main_v3) (V m c main_v5_0) (V m c main_v5_1) fI fO trivial).2 W _)
  rw [out_eq c (ms0 t) (hstage0_0 0) fw hw (V m c main_v1) (V m c main_v3) (V m c main_v5_0) (V m c main_v5_1) fI fO trivial,
    hot_eq c (ms0 t) (hstage0_0 0) fw hw (V m c main_v1) (V m c main_v3) (V m c main_v5_0) (V m c main_v5_1) fI fO trivial, hstep]
  isplitl [Hw]; · iexact Hw
  isplitl [HI]; · iexact HI
  isplitl [HO]; · iexact HO
  isplitl [Hin]; · iexact Hin
  isplitl [Hhot]; · iexact Hhot
  isplitl [Hout]; · iexact Hout
  isplitl [Hho]; · iexact Hho
  isplitl [Hs]; · iexact Hs
  isplitl [HW]; · iexact HW
  iintro ⟨Hw, HI, HO, Hin, Hhot, Hout, Hho, Hs, ⟨%W', HW'⟩⟩
  isplitl [HI HO Hs Hin Hhot Hout Hho]
  · isplitl [HI HO]
    · isplitl [HI]; · iexact HI
      iexact HO
    isplitl [Hs]; · iexact Hs
    isplitl [Hin Hhot]
    · isplitl [Hin]; · iexact Hin
      iexact Hhot
    isplitl [Hout]; · iexact Hout
    iexact Hho
  isplitl [HW']
  · iexists W'; isplitr; · ipureintro; exact fun _ _ => Or.inl trivial
    iexact HW'
  iexists fw; isplitr
  · ipureintro; exact hfw
  iexact Hw

theorem defs₀_row (t : Fin cfg0.N) :
    defs₀ (F := F) .tc cfg0.body (cfg0.bodyArgs t (cfg0.slots t)) = bodyAt0 t := by
  unfold defs₀; rw [Defs.onTc_tc]

include hlt in
theorem body_obligation (c : Dev nD) : BodyObligation (dats (F := F) m 0 c) (defs₀ (F := F)) Variants.none () Set.univ := fun t => by
  rw [bigSep_W0, bigSep_W0, defs₀_row]
  exact triple_restated (sound_body m hlt c t) rfl .rfl fun _ => .rfl

set_option maxHeartbeats 800000 in
/-- The host lines before the kernel reduce the program to the kernel, continued by the lines after it. -/
theorem hmain_dma : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1] [hostOps1] (by simp only [List.Forall]; exact ⟨hostOps0_sub, hostOps0_1_sub⟩)
    (by simp only [List.Forall]; exact ⟨hostOps0_fresh, hostOps0_1_fresh⟩) main_chain

/-- Every array when the host lines after the kernel begin. -/
abbrev after0 (c : Dev nD) : Valuation τ sig (Elt F) :=
  Pipeline.withArrays spec0 c (Pipeline.withR (V0 m c) R0 c (G m c)) fun w => (dats m 0 c).arrAt w cfg0.N

set_option backward.isDefEq.respectTransparency.types false in
include hlt in
/-- The run: every array outside the kernel's window ends as the last host lines leave it, and every counter is zero. -/
theorem run_main : θ_run defs (onTc (τ := τ) (main (F := F))) (s₀ m ρ) (fun r =>
      (∀ c : Dev nD, ∀ b ∈ Pipeline.restRefs sig spec0, r.2.mem ((c : Thread nD τ).loc b) = StableHlo.after hostOps1 (after0 m c) (Proc.devRef .tc b))
      ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m hlt c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain_dma m) (hA := A_eq m) (hin := fun _ => .rfl)
    (hout := fun c => Entails.of_eq (Phi_succ m c t0_0)) (Q' := _)
    (hQ' := fun r h => ⟨fun c b hb => (h.1 c).2 b hb, h.2⟩)

end Cert.Kernel.Hand

end
-- ==== Proof.Results.lean ====
module

public import proofs.«01_k».proof.Proof.Launch
public import proofs.«01_k».proof.Pre_it_in_range
public import Idealize.ShloMosaic.Lib.Tactic.WordOmega

/-! The kernel's two results, element by element, and its arguments at the end of a run: the step's
    images after the activation, and the step's labels. -/

@[expose] public section

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]

variable (m : (ℓ : Loc nD τ sig) → Buf (Elt F) ℓ) (ρ : Dev nD → PrngReg)

/-! ## The stated range -/

/-- A word whose two signed comparisons hold is below fifty. -/
theorem lt_of_range (w : BitVec 32) (h : IntOp.andi (IntOp.cmpi .sge w 0#32) (IntOp.cmpi .slt w 50#32) = 1#1) :
    w.toNat < 50 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

/-- The precondition's own term, all ones, puts the step below fifty. -/
theorem step_lt [Cert.Pre_it_in_range.Facts] (x : FVec F Cert.Pre_it_in_range.S50x256x3x32x32 .f32)
    (l : FVec F Cert.Pre_it_in_range.S50x256x10 .f32) (w : IVec Cert.Pre_it_in_range.S_ 32)
    (h : Cert.Pre_it_in_range.fn x l w = fun _ => 1#1) : (w (fun a : Fin 0 => a.elim0)).toNat < 50 :=
  lt_of_range _ (congrFun h (fun a : Fin 0 => a.elim0))

/-! ## The operands the host lines lay out -/

/-- Position of channel `x`, row `y`, column `z` of an image among its 3072 numbers. -/
def flat (x : Fin 3) (y z : Fin 32) : Fin 3072 := ⟨x.val * 1024 + y.val * 32 + z.val, by omega⟩

/-- The images as the kernel is handed them: pixels down, samples across. -/
theorem V_images (c : Dev nD) (t : Fin 50) (b : Fin 256) (x : Fin 3) (y z : Fin 32) :
    V m c main_v1 (ix3 (n0 := 50) (n1 := 3072) (n2 := 256) t (flat x y z) b)
      = m ((c : Thread nD τ).loc main_arg0) (ix5 (n0 := 50) (n1 := 256) (n2 := 3) (n3 := 32) (n4 := 32) t b x y z) := by
  unfold V V0 flat
  after_reads_at

/-- The labels as the kernel is handed them: classes down, samples across, with an axis of one between. -/
theorem V_labels (c : Dev nD) (t : Fin 50) (b : Fin 256) (o : Fin 10) :
    V m c main_v3 (ix4 (n0 := 10) (n1 := 50) (n2 := 1) (n3 := 256) o t 0 b)
      = m ((c : Thread nD τ).loc main_arg1) (ix3 (n0 := 50) (n1 := 256) (n2 := 10) t b o) := by
  unfold V V0
  after_reads_at

/-! ## The results the host lines read back -/

theorem after0_out (c : Dev nD) : after0 m c (Proc.devRef .tc main_v5_0) = outRows (stepOf (word m c)) (V m c main_v1) := by
  rw [← G_out]
  exact (Pipeline.withArrays_of_ne _ c _ _ main_v5_0 (by exact (by decide : ∀ w, Pipeline.arrRef spec0 w ≠ main_v5_0))).trans
    (Pipeline.withR_of_mem _ _ _ _ main_v5_0 (by decide))

theorem after0_hot (c : Dev nD) : after0 m c (Proc.devRef .tc main_v5_1) = hotRows (stepOf (word m c)) (V m c main_v3) := by
  rw [← G_hot]
  exact (Pipeline.withArrays_of_ne _ c _ _ main_v5_1 (by exact (by decide : ∀ w, Pipeline.arrRef spec0 w ≠ main_v5_1))).trans
    (Pipeline.withR_of_mem _ _ _ _ main_v5_1 (by decide))

/-- The first result: every pixel of the step's images after the activation. -/
theorem end_out (c : Dev nD) (b : Fin 256) (x : Fin 3) (y z : Fin 32) :
    StableHlo.after hostOps1 (after0 m c) (Proc.devRef .tc main_v7) (ix4 (n0 := 256) (n1 := 3) (n2 := 32) (n3 := 32) b x y z)
      = act (m ((c : Thread nD τ).loc main_arg0) (ix5 (n0 := 50) (n1 := 256) (n2 := 3) (n3 := 32) (n4 := 32) (stepOf (word m c)) b x y z)) := by
  rw [← V_images m c]
  have h : StableHlo.after hostOps1 (after0 m c) (Proc.devRef .tc main_v7) (ix4 (n0 := 256) (n1 := 3) (n2 := 32) (n3 := 32) b x y z)
      = after0 m c (Proc.devRef .tc main_v5_0) (ix2 (n0 := 3072) (n1 := 256) (flat x y z) b) := by
    generalize after0 m c = σ
    unfold flat
    after_reads_at
  rw [h, after0_out]
  rfl

/-- The second result: the step's labels. -/
theorem end_hot (c : Dev nD) (b : Fin 256) (o : Fin 10) :
    StableHlo.after hostOps1 (after0 m c) (Proc.devRef .tc main_v9) (ix2 (n0 := 256) (n1 := 10) b o)
      = m ((c : Thread nD τ).loc main_arg1) (ix3 (n0 := 50) (n1 := 256) (n2 := 10) (stepOf (word m c)) b o) := by
  rw [← V_labels m c]
  have h : StableHlo.after hostOps1 (after0 m c) (Proc.devRef .tc main_v9) (ix2 (n0 := 256) (n1 := 10) b o)
      = after0 m c (Proc.devRef .tc main_v5_1) (ix3 (n0 := 10) (n1 := 1) (n2 := 256) o 0 b) := by
    generalize after0 m c = σ
    after_reads_at
  rw [h, after0_hot]
  rfl

/-! ## The arguments -/

/-- A buffer that neither the last host lines, nor the kernel, nor its window writes ends as it began. -/
theorem end_kept (c : Dev nD) (b : Ref sig .tc) (hw : (hostOps1 (F := F)).Forall fun op => Proc.devRef .tc b ∉ op.writes)
    (ha : ∀ w, Pipeline.arrRef spec0 w ≠ b) (hr : b ∉ R0) :
    StableHlo.after hostOps1 (after0 m c) (Proc.devRef .tc b) = V m c b := by
  rw [StableHlo.after_of_forall_not_mem (b := Proc.devRef .tc b) _ _ (List.forall_iff_forall_mem.mp hw)]
  exact (Pipeline.withArrays_of_ne _ c _ _ b ha).trans (Pipeline.withR_of_not_mem _ _ _ _ b hr)

/-- No argument is among what the last host lines write. -/
theorem kept_writes (b : Ref sig .tc) (h6 : b ≠ main_v6) (h7 : b ≠ main_v7) (h8 : b ≠ main_v8) (h9 : b ≠ main_v9) :
    (hostOps1 (F := F)).Forall fun op => Proc.devRef .tc b ∉ op.writes := by
  simp only [hostOps1, List.Forall, StableHlo.unary_writes, StableHlo.reshape_writes, Finset.mem_singleton]
  exact ⟨StableHlo.devRef_ne_of_ne h6, StableHlo.devRef_ne_of_ne h7, StableHlo.devRef_ne_of_ne h8, StableHlo.devRef_ne_of_ne h9⟩

theorem end_arg0 (c : Dev nD) :
    StableHlo.after hostOps1 (after0 m c) (Proc.devRef .tc main_arg0) = m ((c : Thread nD τ).loc main_arg0) :=
  (end_kept m c main_arg0 (kept_writes _ (by decide) (by decide) (by decide) (by decide))
    (by exact (by decide : ∀ w, Pipeline.arrRef spec0 w ≠ main_arg0)) (by decide)).trans (V_main_arg0 m c)

theorem end_arg1 (c : Dev nD) :
    StableHlo.after hostOps1 (after0 m c) (Proc.devRef .tc main_arg1) = m ((c : Thread nD τ).loc main_arg1) :=
  (end_kept m c main_arg1 (kept_writes _ (by decide) (by decide) (by decide) (by decide))
    (by exact (by decide : ∀ w, Pipeline.arrRef spec0 w ≠ main_arg1)) (by decide)).trans (V_main_arg1 m c)

theorem end_arg2 (c : Dev nD) :
    StableHlo.after hostOps1 (after0 m c) (Proc.devRef .tc main_arg2) = m ((c : Thread nD τ).loc main_arg2) :=
  (end_kept m c main_arg2 (kept_writes _ (by decide) (by decide) (by decide) (by decide))
    (by exact (by decide : ∀ w, Pipeline.arrRef spec0 w ≠ main_arg2)) (by decide)).trans (V_main_arg2 m c)

/-! ## A run -/

/-- What the first result is: the step's images after the activation, at every index. -/
def imagesAt (it : Fin 50) (x : S50x256x3x32x32.Idx → F .f32) (j : S256x3x32x32.Idx) : F .f32 :=
  act (x (ix5 (n0 := 50) (n1 := 256) (n2 := 3) (n3 := 32) (n4 := 32) it (j 0) (j 1) (j 2) (j 3)))

/-- What the second result is: the step's labels, at every index. -/
def labelsAt (it : Fin 50) (l : S50x256x10.Idx → F .f32) (j : S256x10.Idx) : F .f32 :=
  l (ix3 (n0 := 50) (n1 := 256) (n2 := 10) it (j 0) (j 1))

/-- A run with the step below fifty: the two results, the arguments as launched, every counter at zero. -/
theorem run_results (hlt : ∀ c, (word m c).toNat < 50) :
    θ_run defs (onTc (τ := τ) (main (F := F))) ⟨m, fun _ => 0, ρ⟩ (fun r => (∀ c : Dev nD,
      r.2.mem ((c.tc : Thread nD τ).loc main_v7) = imagesAt (stepOf (word m c)) (m ((c.tc : Thread nD τ).loc main_arg0))
      ∧ r.2.mem ((c.tc : Thread nD τ).loc main_v9) = labelsAt (stepOf (word m c)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c main_v7 (Pipeline.mem_restRefs_of main_v7 (by decide) (by decide))).trans (funext fun j => by
        idx_vars j
        exact end_out m c _ _ _ _),
      (h.1 c main_v9 (Pipeline.mem_restRefs_of main_v9 (by decide) (by decide))).trans (funext fun j => by
        idx_vars j
        exact end_hot m c _ _),
      (h.1 c main_arg0 (Pipeline.mem_restRefs_of main_arg0 (by decide) (by decide))).trans (end_arg0 m c),
      (h.1 c main_arg1 (Pipeline.mem_restRefs_of main_arg1 (by decide) (by decide))).trans (end_arg1 m c),
      (h.1 c main_arg2 (Pipeline.mem_restRefs_of main_arg2 (by decide) (by decide))).trans (end_arg2 m c)⟩, h.2⟩)
    (run_main m ρ hlt)

end Cert.Kernel.Hand

end
-- ==== Proof.Same.lean ====
module

public import proofs.«01_k».proof.Proof.Gen.Kernel.Launch
public import proofs.«01_k».proof.Proof.Gen.KernelIdeal.Launch

/-! The program read for the ideal instance is the program itself: no rewrite was applied to it, so
    its operands, its host operations and its kernel are the same terms. One proof of a run at any
    float instance serves both. -/

@[expose] public section

noncomputable section

namespace Cert.Hand

open Idealize.ShloMosaic Idealize.ShloMosaic.TcCoe

variable {F : FTy → Type} [FloatOps F]

/-- The two host programs are one. -/
theorem main_same : Cert.KernelIdeal.main (F := F) = Cert.Kernel.main (F := F) := rfl

/-- The two tables of kernel bodies are one: at the only label both run the same body. -/
theorem defs₀_same : Cert.KernelIdeal.defs₀ (F := F) = Cert.Kernel.defs₀ (F := F) := by
  unfold Cert.KernelIdeal.defs₀ Cert.Kernel.defs₀
  refine congrArg Defs.onTc ?_
  funext a b
  match a, b with
  | 0, (_, _) => rfl
  | ⟨_ + 1, h⟩, _ => exact absurd h (Nat.not_lt.2 (Nat.le_add_left _ _))

/-- So are the two tables with the pipelines in them. -/
theorem defs_same : Cert.KernelIdeal.defs (F := F) = Cert.Kernel.defs (F := F) :=
  congrArg (Pipeline.defs (Cert.Kernel.pcfgs (F := F))) defs₀_same

end Cert.Hand

end
-- ==== Proof.Reference.lean ====
module

public import proofs.«01_k».proof.Proof.Gen.ReferenceIdeal
public import proofs.«01_k».proof.Proof.Windows
public import Idealize.ShloMosaic.Lib.DynamicIndex
public import Idealize.ShloMosaic.Lib.Quiescent
public import Idealize.ShloMosaic.Lib.StableHlo.RunHlo
public import Idealize.ShloMosaic.Lib.StableHlo.ReadAt
public import Idealize.ShloMosaic.PureOps.Ideal

/-! The reference, read element by element: at a step below fifty the slice it takes is the step's
    own row, so its results are the step's images after the activation and the step's labels. -/

@[expose] public section

noncomputable section

namespace Cert.ReferenceIdeal.Hand

open Cert.ReferenceIdeal Cert.ReferenceIdeal.Gen
open Idealize.ShloMosaic Idealize.ShloMosaic.TcCoe Idealize.ShloMosaic.Tactic Idealize.ShloMosaic.StableHlo
open Idealize.SL.Sem
open Cert.Kernel.Hand (stepOf)

variable {F : FTy → Type} [FloatOps F]

/-- A start read off a step below fifty: the step itself, nothing wrapped round. -/
theorem start_step (w : IVec S_ 32) (d : IVec S_ 32) (i : S_.Idx) (h : (w i).toNat < 50) :
    (select (cmpi .slt w (constantI S_ 32 0#32)) (addi w d) w i).toInt = ((w i).toNat : Int) := by
  have e : (w i).toInt = ((w i).toNat : Int) := by rw [BitVec.toInt_eq_toNat_cond]; split <;> omega
  rw [select_slt_zero_of_nonneg w _ _ i (by rw [e]; exact Int.natCast_nonneg _), e]

/-- A start of literal zero is zero. -/
theorem start_zero (d : IVec S_ 32) (i : S_.Idx) :
    (select (cmpi .slt (constantI S_ 32 0#32) (constantI S_ 32 0#32)) (addi (constantI S_ 32 0#32) d) (constantI S_ 32 0#32) i).toInt = 0 := by
  rw [select_slt_zero_of_nonneg _ _ _ i (by exact le_refl (0 : Int))]; rfl

/-- The slice of one step's images, at an index. -/
theorem image_row {α : Type} (f : S50x256x3x32x32.Idx → α) (st : Fin 5 → Int) (t : Fin 50)
    (hs : ∀ a, st a = ((![t.val, 0, 0, 0, 0] : Fin 5 → ℕ) a : Int)) (b : Fin 256) (x : Fin 3) (y z : Fin 32) :
    shapeCast S256x3x32x32 (Host.dynamicSlice S1x256x3x32x32 f st sliceFits_S50x256x3x32x32_S1x256x3x32x32)
        shapeCasts_S1x256x3x32x32_S256x3x32x32 (ix4 (n0 := 256) (n1 := 3) (n2 := 32) (n3 := 32) b x y z)
      = f (ix5 (n0 := 50) (n1 := 256) (n2 := 3) (n3 := 32) (n4 := 32) t b x y z) := by
  have hoff : S50x256x3x32x32.Slices (![t.val, 0, 0, 0, 0] : Fin 5 → ℕ) S1x256x3x32x32 := ⟨rfl, fun a => by
    match a with
    | 0 => change t.val + 1 ≤ 50; omega
    | 1 | 2 | 3 | 4 => exact le_refl _⟩
  rw [Host.dynamicSlice_eq_extractStridedSlice S1x256x3x32x32 f st _ _ hoff hs]
  pointwise

/-- The slice of one step's labels, at an index. -/
theorem label_row {α : Type} (f : S50x256x10.Idx → α) (st : Fin 3 → Int) (t : Fin 50)
    (hs : ∀ a, st a = ((![t.val, 0, 0] : Fin 3 → ℕ) a : Int)) (b : Fin 256) (o : Fin 10) :
    shapeCast S256x10 (Host.dynamicSlice S1x256x10 f st sliceFits_S50x256x10_S1x256x10)
        shapeCasts_S1x256x10_S256x10 (ix2 (n0 := 256) (n1 := 10) b o)
      = f (ix3 (n0 := 50) (n1 := 256) (n2 := 10) t b o) := by
  have hoff : S50x256x10.Slices (![t.val, 0, 0] : Fin 3 → ℕ) S1x256x10 := ⟨rfl, fun a => by
    match a with
    | 0 => change t.val + 1 ≤ 50; omega
    | 1 | 2 => exact le_refl _⟩
  rw [Host.dynamicSlice_eq_extractStridedSlice S1x256x10 f st _ _ hoff hs]
  pointwise

/-! ## The lines of the reference -/

set_option maxRecDepth 8192 in
set_option maxHeartbeats 2000000 in
/-- The reference is a straight line of host operations: these. -/
def line : { ops : List (HloOp τ sig (Elt F)) // ∀ d, IsSeq (main (F := F) d) ops } := by
  apply Subtype.mk
  intro d
  hlo_seq

/-- The operations of the line. -/
abbrev ops : List (HloOp τ sig (Elt F)) := line.1

set_option maxRecDepth 8192 in
theorem arg0_kept (σ : Valuation τ sig (Elt F)) : after ops σ (Proc.devRef .tc main_arg0) = σ (Proc.devRef .tc main_arg0) := by
  after_reads_simp

set_option maxRecDepth 8192 in
theorem arg1_kept (σ : Valuation τ sig (Elt F)) : after ops σ (Proc.devRef .tc main_arg1) = σ (Proc.devRef .tc main_arg1) := by
  after_reads_simp

set_option maxRecDepth 8192 in
theorem arg2_kept (σ : Valuation τ sig (Elt F)) : after ops σ (Proc.devRef .tc main_arg2) = σ (Proc.devRef .tc main_arg2) := by
  after_reads_simp

/-- The only index of a scalar. -/
abbrev nowhere : S_.Idx := Shape.Idx.first h_S_

/-- The step's word in a valuation. -/
abbrev wordIn (σ : Valuation τ sig (Elt F)) : IVec S_ 32 := σ (Proc.devRef .tc main_arg2)

/-- Five starts read off their buffers: the first is the step, the others zero. -/
theorem starts_images (σ : Valuation τ sig (Elt F)) (hT) (t : ℕ)
    (h0 : ((σ (Proc.devRef .tc main_v2) : IVec S_ 32) nowhere).toInt = (t : Int))
    (h1 : ((σ (Proc.devRef .tc main_v5) : IVec S_ 32) nowhere).toInt = 0)
    (h2 : ((σ (Proc.devRef .tc main_v8) : IVec S_ 32) nowhere).toInt = 0)
    (h3 : ((σ (Proc.devRef .tc main_v11) : IVec S_ 32) nowhere).toInt = 0)
    (h4 : ((σ (Proc.devRef .tc main_v14) : IVec S_ 32) nowhere).toInt = 0) (a : Fin 5) :
    BitVec.toInt (indexContents ![main_v2, main_v5, main_v8, main_v11, main_v14] ⟨S_, .i32⟩ hT σ a nowhere)
      = ((![t, 0, 0, 0, 0] : Fin 5 → ℕ) a : Int) := by
  match a with
  | 0 => exact h0
  | 1 => exact h1
  | 2 => exact h2
  | 3 => exact h3
  | 4 => exact h4

/-- Three starts read off their buffers: the first is the step, the others zero. -/
theorem starts_labels (σ : Valuation τ sig (Elt F)) (hT) (t : ℕ)
    (h0 : ((σ (Proc.devRef .tc main_v22) : IVec S_ 32) nowhere).toInt = (t : Int))
    (h1 : ((σ (Proc.devRef .tc main_v25) : IVec S_ 32) nowhere).toInt = 0)
    (h2 : ((σ (Proc.devRef .tc main_v28) : IVec S_ 32) nowhere).toInt = 0) (a : Fin 3) :
    BitVec.toInt (indexContents ![main_v22, main_v25, main_v28] ⟨S_, .i32⟩ hT σ a nowhere)
      = ((![t, 0, 0] : Fin 3 → ℕ) a : Int) := by
  match a with
  | 0 => exact h0
  | 1 => exact h1
  | 2 => exact h2

set_option maxRecDepth 8192 in
/-- The first result at an index: the step's pixel after the activation. -/
theorem images_read (σ : Valuation τ sig (Elt F)) (hw : (wordIn σ nowhere).toNat < 50)
    (b : Fin 256) (x : Fin 3) (y z : Fin 32) :
    after ops σ (Proc.devRef .tc main_v19) (ix4 (n0 := 256) (n1 := 3) (n2 := 32) (n3 := 32) b x y z)
      = FloatOps.mulf (FloatOps.hostUnary .tanh (σ (Proc.devRef .tc main_arg0)
          (ix5 (n0 := 50) (n1 := 256) (n2 := 3) (n3 := 32) (n4 := 32) (stepOf (wordIn σ nowhere)) b x y z)))
        (FloatOps.ofBits .f32 0x40000000#32) := by
  after_reads_simp [unaryIndexed_result_read]
  refine congrArg (fun u => FloatOps.mulf (FloatOps.hostUnary .tanh u) (FloatOps.ofBits .f32 0x40000000#32))
    (image_row _ _ (stepOf (wordIn σ nowhere)) (starts_images _ _ _ ?_ ?_ ?_ ?_ ?_) b x y z)
  · after_reads_simp
    exact (start_step _ _ _ hw).trans (congrArg Int.ofNat (Nat.mod_eq_of_lt hw).symm)
  all_goals
    after_reads_simp
    exact start_zero _ _

set_option maxRecDepth 8192 in
/-- The second result at an index: the step's label. -/
theorem labels_read (σ : Valuation τ sig (Elt F)) (hw : (wordIn σ nowhere).toNat < 50)
    (b : Fin 256) (o : Fin 10) :
    after ops σ (Proc.devRef .tc main_v30) (ix2 (n0 := 256) (n1 := 10) b o)
      = σ (Proc.devRef .tc main_arg1) (ix3 (n0 := 50) (n1 := 256) (n2 := 10) (stepOf (wordIn σ nowhere)) b o) := by
  after_reads_simp [unaryIndexed_result_read]
  refine label_row _ _ (stepOf (wordIn σ nowhere)) (starts_labels _ _ _ ?_ ?_ ?_) b o
  · after_reads_simp
    exact (start_step _ _ _ hw).trans (congrArg Int.ofNat (Nat.mod_eq_of_lt hw).symm)
  all_goals
    after_reads_simp
    exact start_zero _ _

/-! ## A run -/

variable (m : (ℓ : Loc nD τ sig) → Buf (Elt F) ℓ) (ρ : Dev nD → PrngReg)

/-- No counter is declared, so each is zero whatever has run. -/
theorem no_counters (s : MemSt nD τ sig (Elt F)) : s.sem = fun _ => 0 := sem_eq_zero_of_no_sems (by decide) s

set_option maxRecDepth 8192 in
/-- A run leaves every buffer as the line leaves it, and every counter at zero. -/
theorem run_line : θ_run defs (onTc (τ := τ) (main (F := F))) ⟨m, fun _ => 0, ρ⟩ (fun r =>
    (∀ (c : Dev nD) (b : Ref sig .tc), r.2.mem ((c.tc : Thread nD τ).loc b) = after ops (launchContents m c) (Proc.devRef .tc b))
      ∧ r.2.sem = fun _ => 0) :=
  (θ_run defs _ _).mono (fun r h => ⟨h, no_counters r.2⟩)
    (run_hlo defs main line.2 (by decide) (by decide) (by simp [line])
      (by intro _ h; (repeat (cases h with | head => rfl | tail _ h => ?_)); exact nomatch h) m ρ)

/-- The arguments end as launched, and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c main_arg0).trans (arg0_kept _), (h.1 c main_arg1).trans (arg1_kept _),
    (h.1 c main_arg2).trans (arg2_kept _)⟩, h.2⟩) (run_line m ρ)

end Cert.ReferenceIdeal.Hand

end
-- ==== Proof.lean ====
module

public import proofs.«01_k».proof.Defs
public import proofs.«01_k».proof.Proof.Results
public import proofs.«01_k».proof.Proof.Same
public import proofs.«01_k».proof.Proof.Reference
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_it_in_range
public import Idealize.ShloMosaic.Adequacy
public import Idealize.ShloMosaic.Init

@[expose] public section

noncomputable section

namespace Cert.Proof

open Idealize.ShloMosaic Idealize.ShloMosaic.TcCoe Idealize.SL.Sem
open Cert.Kernel.Hand (imagesAt labelsAt stepOf step_lt)

/-! ## The two readings of the kernel -/

/-- The kernel's own frame. -/
theorem kernel_frame : Cert.quiescent_Kernel := fun m g hpre =>
  (θ_run Cert.Kernel.defs _ _).mono (fun _ h => ⟨fun c => ⟨(h.1 c).2.2.1, (h.1 c).2.2.2.1, (h.1 c).2.2.2.2⟩, h.2⟩)
    (Cert.Kernel.Hand.run_results m g fun c => step_lt _ _ _ (hpre c))

/-- The step's word in the ideal program's memory. -/
abbrev stepIn (m : (ℓ : Loc Cert.KernelIdeal.nD Cert.KernelIdeal.τ Cert.KernelIdeal.sig) → Buf (Elt Ideal) ℓ) (c : Dev Cert.KernelIdeal.nD) :
    BitVec 32 := m ((c.tc : Thread Cert.KernelIdeal.nD Cert.KernelIdeal.τ).loc Cert.KernelIdeal.main_arg2) (fun a : Fin 0 => a.elim0)

/-- The ideal program's run: the kernel's, since the two programs are one. -/
theorem ideal_run (m : (ℓ : Loc Cert.KernelIdeal.nD Cert.KernelIdeal.τ Cert.KernelIdeal.sig) → Buf (Elt Ideal) ℓ)
    (g : Dev Cert.KernelIdeal.nD → PrngReg) (hlt : ∀ c, (stepIn m c).toNat < 50) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v7)
            = imagesAt (F := Ideal) (stepOf (stepIn m c)) (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_v9)
            = labelsAt (F := Ideal) (stepOf (stepIn m c)) (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
        ∧ r.2.sem = fun _ => 0) := by
  rw [Cert.Hand.defs_same, Cert.Hand.main_same]
  exact Cert.Kernel.Hand.run_results (F := Ideal) m g hlt

/-- The ideal program's frame. -/
theorem ideal_frame : Cert.quiescent_KernelIdeal := fun m g hpre =>
  (θ_run Cert.KernelIdeal.defs _ _).mono (fun _ h => ⟨fun c => ⟨(h.1 c).2.2.1, (h.1 c).2.2.2.1, (h.1 c).2.2.2.2⟩, h.2⟩)
    (ideal_run m g fun c => step_lt _ _ _ (hpre c))

/-! ## The equation -/

/-- A scalar has one index. -/
theorem nowhere_eq : Cert.ReferenceIdeal.Hand.nowhere = fun a : Fin 0 => a.elim0 := funext fun a : Fin 0 => a.elim0

/-- The reference's first result is the step's images after the activation: over the extended reals the
    host's tanh and the kernel's are one function. -/
theorem reference_images (σ : Valuation Cert.ReferenceIdeal.τ Cert.ReferenceIdeal.sig (Elt Ideal)) (w : BitVec 32)
    (hw : Cert.ReferenceIdeal.Hand.wordIn σ Cert.ReferenceIdeal.Hand.nowhere = w) (hlt : w.toNat < 50) :
    StableHlo.after Cert.ReferenceIdeal.Hand.ops σ (Proc.devRef .tc Cert.ReferenceIdeal.main_v19)
      = imagesAt (F := Ideal) (stepOf w) (σ (Proc.devRef .tc Cert.ReferenceIdeal.main_arg0)) := by
  subst hw
  funext j
  idx_vars j
  exact Cert.ReferenceIdeal.Hand.images_read σ hlt _ _ _ _

/-- The reference's second result is the step's labels. -/
theorem reference_labels (σ : Valuation Cert.ReferenceIdeal.τ Cert.ReferenceIdeal.sig (Elt Ideal)) (w : BitVec 32)
    (hw : Cert.ReferenceIdeal.Hand.wordIn σ Cert.ReferenceIdeal.Hand.nowhere = w) (hlt : w.toNat < 50) :
    StableHlo.after Cert.ReferenceIdeal.Hand.ops σ (Proc.devRef .tc Cert.ReferenceIdeal.main_v30)
      = labelsAt (F := Ideal) (stepOf w) (σ (Proc.devRef .tc Cert.ReferenceIdeal.main_arg1)) := by
  subst hw
  funext j
  idx_vars j
  exact Cert.ReferenceIdeal.Hand.labels_read σ hlt _ _

/-- Over the extended reals the kernel and the reference end with the same two results. -/
theorem equation : Cert.algebraic_KernelIdeal_ReferenceIdeal := by
  intro m g m' g' hpre hagree
  have hlt : ∀ c, (stepIn m c).toNat < 50 := fun c => step_lt _ _ _ (hpre c)
  have hword : ∀ c : Dev Cert.ReferenceIdeal.nD,
      Cert.ReferenceIdeal.Hand.wordIn (StableHlo.launchContents m' c) Cert.ReferenceIdeal.Hand.nowhere = stepIn m c := fun c => by
    rw [nowhere_eq]
    exact congrFun (hagree c).2.2 _
  refine ⟨fun c => imagesAt (F := Ideal) (stepOf (stepIn m c)) (m ((c.tc : Thread Cert.KernelIdeal.nD Cert.KernelIdeal.τ).loc Cert.KernelIdeal.main_arg0)),
    fun c => labelsAt (F := Ideal) (stepOf (stepIn m c)) (m ((c.tc : Thread Cert.KernelIdeal.nD Cert.KernelIdeal.τ).loc Cert.KernelIdeal.main_arg1)),
    (θ_run Cert.KernelIdeal.defs _ _).mono (fun _ h => h.1) (ideal_run m g hlt),
    (θ_run Cert.ReferenceIdeal.defs _ _).mono (fun r h c => ⟨?_, ?_, ?_, ?_, ?_⟩) (Cert.ReferenceIdeal.Hand.run_line m' g')⟩
  · exact ((h.1 c _).trans (reference_images _ _ (hword c) (hlt c))).trans
      (congrArg (imagesAt (F := Ideal) (stepOf (stepIn m c))) (hagree c).1)
  · exact ((h.1 c _).trans (reference_labels _ _ (hword c) (hlt c))).trans
      (congrArg (labelsAt (F := Ideal) (stepOf (stepIn m c))) (hagree c).2.1)
  · exact (h.1 c _).trans (Cert.ReferenceIdeal.Hand.arg0_kept _)
  · exact (h.1 c _).trans (Cert.ReferenceIdeal.Hand.arg1_kept _)
  · exact (h.1 c _).trans (Cert.ReferenceIdeal.Hand.arg2_kept _)

theorem claim : Cert.Claim := ⟨Cert.Kernel.Gen.facts, Cert.KernelIdeal.Gen.facts, Cert.ReferenceIdeal.Gen.facts, Cert.Pre_it_in_range.Gen.facts,
  kernel_frame, ideal_frame, fun m g _ => Cert.ReferenceIdeal.Hand.run_frame m g, fun m g _ => Cert.ReferenceIdeal.Hand.run_frame m g,
  trivial, equation⟩

end Cert.Proof

end
